-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2048x384 : Shape := ⟨2, ![2048, 384]⟩
abbrev S2048x256 : Shape := ⟨2, ![2048, 256]⟩
abbrev S3584x384 : Shape := ⟨2, ![3584, 384]⟩
abbrev S3584x256 : Shape := ⟨2, ![3584, 256]⟩
abbrev S9 : Shape := ⟨1, ![9]⟩
abbrev S12 : Shape := ⟨1, ![12]⟩
abbrev S1 : Shape := ⟨1, ![1]⟩
abbrev S_ : Shape := ⟨0, ![]⟩
abbrev S1024x384 : Shape := ⟨2, ![1024, 384]⟩
abbrev S1024x256 : Shape := ⟨2, ![1024, 256]⟩
abbrev S512x256 : Shape := ⟨2, ![512, 256]⟩
abbrev S512x384 : Shape := ⟨2, ![512, 384]⟩

abbrev nBuf : Space → Nat
  | .hbm => 2
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S4096x1024, .f32⟩
  | .local _ .vmem, ⟨2, _⟩ => ⟨S2048x384, .bf16⟩
  | .local _ .vmem, ⟨3, _⟩ => ⟨S2048x384, .bf16⟩
  | .local _ .vmem, ⟨4, _⟩ => ⟨S2048x256, .bf16⟩
  | .local _ .vmem, ⟨5, _⟩ => ⟨S3584x384, .bf16⟩
  | .local _ .vmem, ⟨6, _⟩ => ⟨S3584x384, .bf16⟩
  | .local _ .vmem, ⟨7, _⟩ => ⟨S3584x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v19 : BitVec 32 := Scalar.subi c1_i32_7 v4
  let c2048_i32_8 : BitVec 32 := 2048#32
  let v20 : BitVec 32 := Scalar.muli v19 c2048_i32_8
  let c1_i32_20 : BitVec 32 := 1#32
  let c2_i32 : BitVec 32 := 2#32
  let v7 : BitVec 32 := Scalar.shrui v2 c2_i32
  let v38 : BitVec 32 := Scalar.subi c1_i32_20 v7
  let c1024_i32_21 : BitVec 32 := 1024#32
  let v39 : BitVec 32 := Scalar.muli v38 c1024_i32_21
  let v40 : BitVec 32 := Scalar.addi v20 v39
  let c384_i32 : BitVec 32 := 384#32
  ![v40.toNat, 384]
def k0_off2 (d0 : Dev nD) : Fin 2 → Nat :=
  let c1_i32_2 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v9 : BitVec 32 := Scalar.subi c1_i32_2 v6
  let c2048_i32_3 : BitVec 32 := 2048#32
  let v10 : BitVec 32 := Scalar.muli v9 c2048_i32_3
  let c1_i32_24 : BitVec 32 := 1#32
  let v45 : BitVec 32 := Scalar.subi c1_i32_24 v4
  let c1024_i32_25 : BitVec 32 := 1024#32
  let v46 : BitVec 32 := Scalar.muli v45 c1024_i32_25
  let v47 : BitVec 32 := Scalar.addi v10 v46
  let c0_i32_26 : BitVec 32 := 0#32
  ![v47.toNat, 0]
def k0_off3 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let v29 : BitVec 32 := Scalar.subi c1_i32_14 v7
  let c2048_i32_15 : BitVec 32 := 2048#32
  let v30 : BitVec 32 := Scalar.muli v29 c2048_i32_15
  let c1_i32_28 : BitVec 32 := 1#32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v52 : BitVec 32 := Scalar.subi c1_i32_28 v6
  let c1024_i32_29 : BitVec 32 := 1024#32
  let v53 : BitVec 32 := Scalar.muli v52 c1024_i32_29
  let v54 : BitVec 32 := Scalar.addi v30 v53
  let c768_i32 : BitVec 32 := 768#32
  ![v54.toNat, 768]
def k0_off4 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v19 : BitVec 32 := Scalar.subi c1_i32_7 v4
  let c2048_i32_8 : BitVec 32 := 2048#32
  let v20 : BitVec 32 := Scalar.muli v19 c2048_i32_8
  let c2_i32 : BitVec 32 := 2#32
  let v7 : BitVec 32 := Scalar.shrui v2 c2_i32
  let c1024_i32_31 : BitVec 32 := 1024#32
  let v59 : BitVec 32 := Scalar.muli v7 c1024_i32_31
  let v60 : BitVec 32 := Scalar.addi v20 v59
  let c384_i32_32 : BitVec 32 := 384#32
  ![v60.toNat, 384]
def k0_off5 (d0 : Dev nD) : Fin 2 → Nat :=
  let c1_i32_2 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v9 : BitVec 32 := Scalar.subi c1_i32_2 v6
  let c2048_i32_3 : BitVec 32 := 2048#32
  let v10 : BitVec 32 := Scalar.muli v9 c2048_i32_3
  let c1024_i32_34 : BitVec 32 := 1024#32
  let v65 : BitVec 32 := Scalar.muli v4 c1024_i32_34
  let v66 : BitVec 32 := Scalar.addi v10 v65
  let c0_i32_36 : BitVec 32 := 0#32
  ![v66.toNat, 0]
def k0_off6 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let v29 : BitVec 32 := Scalar.subi c1_i32_14 v7
  let c2048_i32_15 : BitVec 32 := 2048#32
  let v30 : BitVec 32 := Scalar.muli v29 c2048_i32_15
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_38 : BitVec 32 := 1024#32
  let v71 : BitVec 32 := Scalar.muli v6 c1024_i32_38
  let v72 : BitVec 32 := Scalar.addi v30 v71
  let c768_i32_39 : BitVec 32 := 768#32
  ![v72.toNat, 768]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c768_i32_42 : BitVec 32 := 768#32
  ![v28.toNat, 768]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c0_i32_45 : BitVec 32 := 0#32
  ![v8.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c384_i32_47 : BitVec 32 := 384#32
  ![v18.toNat, 384]
def k0_dev1 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v90 : BitVec 32 := Scalar.xori v2 c1_i32_49
  let c1_i32_51 : BitVec 32 := 1#32
  let v91 : BitVec 32 := Scalar.muli v90 c1_i32_51
  let v92 : BitVec 32 := Scalar.addi c0_i32_52 v91
  v92.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v93 : BitVec 32 := Scalar.xori v2 c3_i32_53
  let c1_i32_55 : BitVec 32 := 1#32
  let v94 : BitVec 32 := Scalar.muli v93 c1_i32_55
  let v95 : BitVec 32 := Scalar.addi c0_i32_56 v94
  v95.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v96 : BitVec 32 := Scalar.xori v2 c4_i32_57
  let c1_i32_59 : BitVec 32 := 1#32
  let v97 : BitVec 32 := Scalar.muli v96 c1_i32_59
  let v98 : BitVec 32 := Scalar.addi c0_i32_60 v97
  v98.toNat
def k0_off10 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v19 : BitVec 32 := Scalar.subi c1_i32_7 v4
  let c2048_i32_8 : BitVec 32 := 2048#32
  let v20 : BitVec 32 := Scalar.muli v19 c2048_i32_8
  let c1_i32_62 : BitVec 32 := 1#32
  let c2_i32 : BitVec 32 := 2#32
  let v7 : BitVec 32 := Scalar.shrui v2 c2_i32
  let v99 : BitVec 32 := Scalar.subi c1_i32_62 v7
  let c1024_i32_63 : BitVec 32 := 1024#32
  let v100 : BitVec 32 := Scalar.muli v99 c1024_i32_63
  let v101 : BitVec 32 := Scalar.addi v20 v100
  let v106 : Index := Scalar.indexCast v101
  let c384 : Index := 384#32
  ![v106.toNat, 384]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_68 : BitVec 32 := 3#32
  let v112 : BitVec 32 := Scalar.xori v2 c3_i32_68
  let c1_i32_71 : BitVec 32 := 1#32
  let v113 : BitVec 32 := Scalar.muli v112 c1_i32_71
  let v114 : BitVec 32 := Scalar.addi c0_i32_72 v113
  v114.toNat
def k0_off11 (d0 : Dev nD) : Fin 2 → Nat :=
  let c1_i32_2 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v9 : BitVec 32 := Scalar.subi c1_i32_2 v6
  let c2048_i32_3 : BitVec 32 := 2048#32
  let v10 : BitVec 32 := Scalar.muli v9 c2048_i32_3
  let c1_i32_77 : BitVec 32 := 1#32
  let v121 : BitVec 32 := Scalar.subi c1_i32_77 v4
  let c1024_i32_78 : BitVec 32 := 1024#32
  let v122 : BitVec 32 := Scalar.muli v121 c1024_i32_78
  let v123 : BitVec 32 := Scalar.addi v10 v122
  let v128 : Index := Scalar.indexCast v123
  let c0_82 : Index := 0#32
  ![v128.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v134 : BitVec 32 := Scalar.xori v2 c1_i32_85
  let c1_i32_88 : BitVec 32 := 1#32
  let v135 : BitVec 32 := Scalar.muli v134 c1_i32_88
  let v136 : BitVec 32 := Scalar.addi c0_i32_89 v135
  v136.toNat
def k0_off12 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let v29 : BitVec 32 := Scalar.subi c1_i32_14 v7
  let c2048_i32_15 : BitVec 32 := 2048#32
  let v30 : BitVec 32 := Scalar.muli v29 c2048_i32_15
  let c1_i32_94 : BitVec 32 := 1#32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v143 : BitVec 32 := Scalar.subi c1_i32_94 v6
  let c1024_i32_95 : BitVec 32 := 1024#32
  let v144 : BitVec 32 := Scalar.muli v143 c1024_i32_95
  let v145 : BitVec 32 := Scalar.addi v30 v144
  let v150 : Index := Scalar.indexCast v145
  let c768 : Index := 768#32
  ![v150.toNat, 768]
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v156 : BitVec 32 := Scalar.xori v2 c4_i32_101
  let c1_i32_104 : BitVec 32 := 1#32
  let v157 : BitVec 32 := Scalar.muli v156 c1_i32_104
  let v158 : BitVec 32 := Scalar.addi c0_i32_105 v157
  v158.toNat
def k0_off13 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v19 : BitVec 32 := Scalar.subi c1_i32_7 v4
  let c2048_i32_8 : BitVec 32 := 2048#32
  let v20 : BitVec 32 := Scalar.muli v19 c2048_i32_8
  let c2_i32 : BitVec 32 := 2#32
  let v7 : BitVec 32 := Scalar.shrui v2 c2_i32
  let c1024_i32_110 : BitVec 32 := 1024#32
  let v165 : BitVec 32 := Scalar.muli v7 c1024_i32_110
  let v166 : BitVec 32 := Scalar.addi v20 v165
  let v171 : Index := Scalar.indexCast v166
  let c384_114 : Index := 384#32
  ![v171.toNat, 384]
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_116 : BitVec 32 := 3#32
  let v177 : BitVec 32 := Scalar.xori v2 c3_i32_116
  let c1_i32_119 : BitVec 32 := 1#32
  let v178 : BitVec 32 := Scalar.muli v177 c1_i32_119
  let v179 : BitVec 32 := Scalar.addi c0_i32_120 v178
  v179.toNat
def k0_off14 (d0 : Dev nD) : Fin 2 → Nat :=
  let c1_i32_2 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v9 : BitVec 32 := Scalar.subi c1_i32_2 v6
  let c2048_i32_3 : BitVec 32 := 2048#32
  let v10 : BitVec 32 := Scalar.muli v9 c2048_i32_3
  let c1024_i32_125 : BitVec 32 := 1024#32
  let v186 : BitVec 32 := Scalar.muli v4 c1024_i32_125
  let v187 : BitVec 32 := Scalar.addi v10 v186
  let v192 : Index := Scalar.indexCast v187
  let c0_129 : Index := 0#32
  ![v192.toNat, 0]
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v198 : BitVec 32 := Scalar.xori v2 c1_i32_132
  let c1_i32_135 : BitVec 32 := 1#32
  let v199 : BitVec 32 := Scalar.muli v198 c1_i32_135
  let v200 : BitVec 32 := Scalar.addi c0_i32_136 v199
  v200.toNat
def k0_off15 (d0 : Dev nD) : Fin 2 → Nat :=
  let c1_i32_14 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let v29 : BitVec 32 := Scalar.subi c1_i32_14 v7
  let c2048_i32_15 : BitVec 32 := 2048#32
  let v30 : BitVec 32 := Scalar.muli v29 c2048_i32_15
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_141 : BitVec 32 := 1024#32
  let v207 : BitVec 32 := Scalar.muli v6 c1024_i32_141
  let v208 : BitVec 32 := Scalar.addi v30 v207
  let v213 : Index := Scalar.indexCast v208
  let c768_145 : Index := 768#32
  ![v213.toNat, 768]
def k0_dev9 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_148 : BitVec 32 := 4#32
  let v219 : BitVec 32 := Scalar.xori v2 c4_i32_148
  let c1_i32_151 : BitVec 32 := 1#32
  let v220 : BitVec 32 := Scalar.muli v219 c1_i32_151
  let v221 : BitVec 32 := Scalar.addi c0_i32_152 v220
  v221.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c1_i32_17 : BitVec 32 := 1#32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v33 : BitVec 32 := Scalar.subi c1_i32_17 v6
  let c1024_i32_18 : BitVec 32 := 1024#32
  let v34 : BitVec 32 := Scalar.muli v33 c1024_i32_18
  let v35 : BitVec 32 := Scalar.addi v28 v34
  let v242 : Index := Scalar.indexCast v35
  let c768_175 : Index := 768#32
  ![v242.toNat, 768]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c1_i32_17 : BitVec 32 := 1#32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v33 : BitVec 32 := Scalar.subi c1_i32_17 v6
  let c1024_i32_18 : BitVec 32 := 1024#32
  let v34 : BitVec 32 := Scalar.muli v33 c1024_i32_18
  let v35 : BitVec 32 := Scalar.addi v28 v34
  let c1_i32_179 : BitVec 32 := 1#32
  let v249 : BitVec 32 := Scalar.subi c1_i32_179 v4
  let c512_i32_180 : BitVec 32 := 512#32
  let v250 : BitVec 32 := Scalar.muli v249 c512_i32_180
  let v251 : BitVec 32 := Scalar.addi v35 v250
  let c768_i32_189 : BitVec 32 := 768#32
  ![v251.toNat, 768]
def k0_dev10 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_182 : BitVec 32 := 1#32
  let v254 : BitVec 32 := Scalar.xori v2 c1_i32_182
  let c1_i32_185 : BitVec 32 := 1#32
  let v255 : BitVec 32 := Scalar.muli v254 c1_i32_185
  let v256 : BitVec 32 := Scalar.addi c0_i32_186 v255
  v256.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c1_i32_17 : BitVec 32 := 1#32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v33 : BitVec 32 := Scalar.subi c1_i32_17 v6
  let c1024_i32_18 : BitVec 32 := 1024#32
  let v34 : BitVec 32 := Scalar.muli v33 c1024_i32_18
  let v35 : BitVec 32 := Scalar.addi v28 v34
  let c512_i32_181 : BitVec 32 := 512#32
  let v252 : BitVec 32 := Scalar.muli v4 c512_i32_181
  let v253 : BitVec 32 := Scalar.addi v35 v252
  let c768_i32_196 : BitVec 32 := 768#32
  ![v253.toNat, 768]
def k0_dev11 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_190 : BitVec 32 := 1#32
  let v263 : BitVec 32 := Scalar.xori v2 c1_i32_190
  let c1_i32_193 : BitVec 32 := 1#32
  let v264 : BitVec 32 := Scalar.muli v263 c1_i32_193
  let v265 : BitVec 32 := Scalar.addi c0_i32_194 v264
  v265.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1_i32_4 : BitVec 32 := 1#32
  let v13 : BitVec 32 := Scalar.subi c1_i32_4 v4
  let c1024_i32_5 : BitVec 32 := 1024#32
  let v14 : BitVec 32 := Scalar.muli v13 c1024_i32_5
  let v15 : BitVec 32 := Scalar.addi v8 v14
  let v286 : Index := Scalar.indexCast v15
  let c0_215 : Index := 0#32
  ![v286.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1_i32_4 : BitVec 32 := 1#32
  let v13 : BitVec 32 := Scalar.subi c1_i32_4 v4
  let c1024_i32_5 : BitVec 32 := 1024#32
  let v14 : BitVec 32 := Scalar.muli v13 c1024_i32_5
  let v15 : BitVec 32 := Scalar.addi v8 v14
  let c1_i32_219 : BitVec 32 := 1#32
  let c2_i32 : BitVec 32 := 2#32
  let v7 : BitVec 32 := Scalar.shrui v2 c2_i32
  let v293 : BitVec 32 := Scalar.subi c1_i32_219 v7
  let c512_i32_220 : BitVec 32 := 512#32
  let v294 : BitVec 32 := Scalar.muli v293 c512_i32_220
  let v295 : BitVec 32 := Scalar.addi v15 v294
  let c0_i32_229 : BitVec 32 := 0#32
  ![v295.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v298 : BitVec 32 := Scalar.xori v2 c3_i32_222
  let c1_i32_225 : BitVec 32 := 1#32
  let v299 : BitVec 32 := Scalar.muli v298 c1_i32_225
  let v300 : BitVec 32 := Scalar.addi c0_i32_226 v299
  v300.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1_i32_4 : BitVec 32 := 1#32
  let v13 : BitVec 32 := Scalar.subi c1_i32_4 v4
  let c1024_i32_5 : BitVec 32 := 1024#32
  let v14 : BitVec 32 := Scalar.muli v13 c1024_i32_5
  let v15 : BitVec 32 := Scalar.addi v8 v14
  let c2_i32 : BitVec 32 := 2#32
  let v7 : BitVec 32 := Scalar.shrui v2 c2_i32
  let c512_i32_221 : BitVec 32 := 512#32
  let v296 : BitVec 32 := Scalar.muli v7 c512_i32_221
  let v297 : BitVec 32 := Scalar.addi v15 v296
  let c0_i32_237 : BitVec 32 := 0#32
  ![v297.toNat, 0]
def k0_dev13 (d0 : Dev nD) : Nat :=
  let c0_i32_234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_230 : BitVec 32 := 3#32
  let v307 : BitVec 32 := Scalar.xori v2 c3_i32_230
  let c1_i32_233 : BitVec 32 := 1#32
  let v308 : BitVec 32 := Scalar.muli v307 c1_i32_233
  let v309 : BitVec 32 := Scalar.addi c0_i32_234 v308
  v309.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c1_i32_10 : BitVec 32 := 1#32
  let c2_i32 : BitVec 32 := 2#32
  let v7 : BitVec 32 := Scalar.shrui v2 c2_i32
  let v23 : BitVec 32 := Scalar.subi c1_i32_10 v7
  let c1024_i32_11 : BitVec 32 := 1024#32
  let v24 : BitVec 32 := Scalar.muli v23 c1024_i32_11
  let v25 : BitVec 32 := Scalar.addi v18 v24
  let v330 : Index := Scalar.indexCast v25
  let c384_256 : Index := 384#32
  ![v330.toNat, 384]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c1_i32_10 : BitVec 32 := 1#32
  let c2_i32 : BitVec 32 := 2#32
  let v7 : BitVec 32 := Scalar.shrui v2 c2_i32
  let v23 : BitVec 32 := Scalar.subi c1_i32_10 v7
  let c1024_i32_11 : BitVec 32 := 1024#32
  let v24 : BitVec 32 := Scalar.muli v23 c1024_i32_11
  let v25 : BitVec 32 := Scalar.addi v18 v24
  let c1_i32_260 : BitVec 32 := 1#32
  let v5 : BitVec 32 := Scalar.xori v3 v4
  let c1_i32_1 : BitVec 32 := 1#32
  let v6 : BitVec 32 := Scalar.andi v5 c1_i32_1
  let v337 : BitVec 32 := Scalar.subi c1_i32_260 v6
  let c512_i32_261 : BitVec 32 := 512#32
  let v338 : BitVec 32 := Scalar.muli v337 c512_i32_261
  let v339 : BitVec 32 := Scalar.addi v25 v338
  let c384_i32_270 : BitVec 32 := 384#32
  ![v339.toNat, 384]
def k0_dev14 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_263 : BitVec 32 := 4#32
  let v342 : BitVec 32 := Scalar.xori v2 c4_i32_263
  let c1_i32_266 : BitVec 32 := 1#32
  let v343 : BitVec 32 := Scalar.muli v342 c1_i32_266
  let v344 : BitVec 32 := Scalar.addi c0_i32_267 v343
  v344.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c1_i32_10 : BitVec 32 := 1#32
  let c2_i32 : BitVec 32 := 2#32
  let v7 : BitVec 32 := Scalar.shrui v2 c2_i32
  let v23 : BitVec 32 := Scalar.subi c1_i32_10 v7
  let c1024_i32_11 : BitVec 32 := 1024#32
  let v24 : BitVec 32 := Scalar.muli v23 c1024_i32_11
  let v25 : BitVec 32 := Scalar.addi v18 v24
  let v5 : BitVec 32 := Scalar.xori v3 v4
  let c1_i32_1 : BitVec 32 := 1#32
  let v6 : BitVec 32 := Scalar.andi v5 c1_i32_1
  let c512_i32_262 : BitVec 32 := 512#32
  let v340 : BitVec 32 := Scalar.muli v6 c512_i32_262
  let v341 : BitVec 32 := Scalar.addi v25 v340
  let c384_i32_278 : BitVec 32 := 384#32
  ![v341.toNat, 384]
def k0_dev15 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_271 : BitVec 32 := 4#32
  let v351 : BitVec 32 := Scalar.xori v2 c4_i32_271
  let c1_i32_274 : BitVec 32 := 1#32
  let v352 : BitVec 32 := Scalar.muli v351 c1_i32_274
  let v353 : BitVec 32 := Scalar.addi c0_i32_275 v352
  v353.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_16 : BitVec 32 := 1024#32
  let v31 : BitVec 32 := Scalar.muli v6 c1024_i32_16
  let v32 : BitVec 32 := Scalar.addi v28 v31
  let c1_i32_307 : BitVec 32 := 1#32
  let v380 : BitVec 32 := Scalar.subi c1_i32_307 v4
  let c512_i32_308 : BitVec 32 := 512#32
  let v381 : BitVec 32 := Scalar.muli v380 c512_i32_308
  let v382 : BitVec 32 := Scalar.addi v32 v381
  let v383 : Index := Scalar.indexCast v382
  let c768_309 : Index := 768#32
  ![v383.toNat, 768]
def k0_off26 (d0 : Dev nD) : Fin 2 → Nat :=
  let c1024_i32_312 : BitVec 32 := 1024#32
  let c1_i32_310 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v386 : BitVec 32 := Scalar.subi c1_i32_310 v4
  let c512_i32_311 : BitVec 32 := 512#32
  let v387 : BitVec 32 := Scalar.muli v386 c512_i32_311
  let v388 : BitVec 32 := Scalar.addi c1024_i32_312 v387
  let v389 : Index := Scalar.indexCast v388
  let c0_313 : Index := 0#32
  ![v389.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_16 : BitVec 32 := 1024#32
  let v31 : BitVec 32 := Scalar.muli v6 c1024_i32_16
  let v32 : BitVec 32 := Scalar.addi v28 v31
  let c1_i32_307 : BitVec 32 := 1#32
  let v380 : BitVec 32 := Scalar.subi c1_i32_307 v4
  let c512_i32_308 : BitVec 32 := 512#32
  let v381 : BitVec 32 := Scalar.muli v380 c512_i32_308
  let v382 : BitVec 32 := Scalar.addi v32 v381
  let c768_i32_322 : BitVec 32 := 768#32
  ![v382.toNat, 768]
def k0_dev16 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_316 : BitVec 32 := 3#32
  let v396 : BitVec 32 := Scalar.xori v2 c3_i32_316
  let c1_i32_319 : BitVec 32 := 1#32
  let v397 : BitVec 32 := Scalar.muli v396 c1_i32_319
  let v398 : BitVec 32 := Scalar.addi c0_i32_320 v397
  v398.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1024_i32 : BitVec 32 := 1024#32
  let v11 : BitVec 32 := Scalar.muli v4 c1024_i32
  let v12 : BitVec 32 := Scalar.addi v8 v11
  let c1_i32_351 : BitVec 32 := 1#32
  let c2_i32 : BitVec 32 := 2#32
  let v7 : BitVec 32 := Scalar.shrui v2 c2_i32
  let v425 : BitVec 32 := Scalar.subi c1_i32_351 v7
  let c512_i32_352 : BitVec 32 := 512#32
  let v426 : BitVec 32 := Scalar.muli v425 c512_i32_352
  let v427 : BitVec 32 := Scalar.addi v12 v426
  let v428 : Index := Scalar.indexCast v427
  let c0_353 : Index := 0#32
  ![v428.toNat, 0]
def k0_off29 (d0 : Dev nD) : Fin 2 → Nat :=
  let c1024_i32_356 : BitVec 32 := 1024#32
  let c1_i32_354 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let v431 : BitVec 32 := Scalar.subi c1_i32_354 v7
  let c512_i32_355 : BitVec 32 := 512#32
  let v432 : BitVec 32 := Scalar.muli v431 c512_i32_355
  let v433 : BitVec 32 := Scalar.addi c1024_i32_356 v432
  let v434 : Index := Scalar.indexCast v433
  let c0_357 : Index := 0#32
  ![v434.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1024_i32 : BitVec 32 := 1024#32
  let v11 : BitVec 32 := Scalar.muli v4 c1024_i32
  let v12 : BitVec 32 := Scalar.addi v8 v11
  let c1_i32_351 : BitVec 32 := 1#32
  let c2_i32 : BitVec 32 := 2#32
  let v7 : BitVec 32 := Scalar.shrui v2 c2_i32
  let v425 : BitVec 32 := Scalar.subi c1_i32_351 v7
  let c512_i32_352 : BitVec 32 := 512#32
  let v426 : BitVec 32 := Scalar.muli v425 c512_i32_352
  let v427 : BitVec 32 := Scalar.addi v12 v426
  let c0_i32_368 : BitVec 32 := 0#32
  ![v427.toNat, 0]
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_361 : BitVec 32 := 4#32
  let v441 : BitVec 32 := Scalar.xori v2 c4_i32_361
  let c1_i32_364 : BitVec 32 := 1#32
  let v442 : BitVec 32 := Scalar.muli v441 c1_i32_364
  let v443 : BitVec 32 := Scalar.addi c0_i32_365 v442
  v443.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c2_i32 : BitVec 32 := 2#32
  let v7 : BitVec 32 := Scalar.shrui v2 c2_i32
  let c1024_i32_9 : BitVec 32 := 1024#32
  let v21 : BitVec 32 := Scalar.muli v7 c1024_i32_9
  let v22 : BitVec 32 := Scalar.addi v18 v21
  let c1_i32_397 : BitVec 32 := 1#32
  let v5 : BitVec 32 := Scalar.xori v3 v4
  let c1_i32_1 : BitVec 32 := 1#32
  let v6 : BitVec 32 := Scalar.andi v5 c1_i32_1
  let v470 : BitVec 32 := Scalar.subi c1_i32_397 v6
  let c512_i32_398 : BitVec 32 := 512#32
  let v471 : BitVec 32 := Scalar.muli v470 c512_i32_398
  let v472 : BitVec 32 := Scalar.addi v22 v471
  let v473 : Index := Scalar.indexCast v472
  let c384_399 : Index := 384#32
  ![v473.toNat, 384]
def k0_off32 (d0 : Dev nD) : Fin 2 → Nat :=
  let c1024_i32_402 : BitVec 32 := 1024#32
  let c1_i32_400 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let v476 : BitVec 32 := Scalar.subi c1_i32_400 v6
  let c512_i32_401 : BitVec 32 := 512#32
  let v477 : BitVec 32 := Scalar.muli v476 c512_i32_401
  let v478 : BitVec 32 := Scalar.addi c1024_i32_402 v477
  let v479 : Index := Scalar.indexCast v478
  let c0_403 : Index := 0#32
  ![v479.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c2_i32 : BitVec 32 := 2#32
  let v7 : BitVec 32 := Scalar.shrui v2 c2_i32
  let c1024_i32_9 : BitVec 32 := 1024#32
  let v21 : BitVec 32 := Scalar.muli v7 c1024_i32_9
  let v22 : BitVec 32 := Scalar.addi v18 v21
  let c1_i32_397 : BitVec 32 := 1#32
  let v5 : BitVec 32 := Scalar.xori v3 v4
  let c1_i32_1 : BitVec 32 := 1#32
  let v6 : BitVec 32 := Scalar.andi v5 c1_i32_1
  let v470 : BitVec 32 := Scalar.subi c1_i32_397 v6
  let c512_i32_398 : BitVec 32 := 512#32
  let v471 : BitVec 32 := Scalar.muli v470 c512_i32_398
  let v472 : BitVec 32 := Scalar.addi v22 v471
  let c384_i32_414 : BitVec 32 := 384#32
  ![v472.toNat, 384]
def k0_dev18 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_407 : BitVec 32 := 1#32
  let v486 : BitVec 32 := Scalar.xori v2 c1_i32_407
  let c1_i32_410 : BitVec 32 := 1#32
  let v487 : BitVec 32 := Scalar.muli v486 c1_i32_410
  let v488 : BitVec 32 := Scalar.addi c0_i32_411 v487
  v488.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_16 : BitVec 32 := 1024#32
  let v31 : BitVec 32 := Scalar.muli v6 c1024_i32_16
  let v32 : BitVec 32 := Scalar.addi v28 v31
  let c512_i32_19 : BitVec 32 := 512#32
  let v36 : BitVec 32 := Scalar.muli v4 c512_i32_19
  let v37 : BitVec 32 := Scalar.addi v32 v36
  let v515 : Index := Scalar.indexCast v37
  let c768_441 : Index := 768#32
  ![v515.toNat, 768]
def k0_off35 (d0 : Dev nD) : Fin 2 → Nat :=
  let c1024_i32_443 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c512_i32_442 : BitVec 32 := 512#32
  let v518 : BitVec 32 := Scalar.muli v4 c512_i32_442
  let v519 : BitVec 32 := Scalar.addi c1024_i32_443 v518
  let v520 : Index := Scalar.indexCast v519
  let c0_444 : Index := 0#32
  ![v520.toNat, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c2048_i32_13 : BitVec 32 := 2048#32
  let v28 : BitVec 32 := Scalar.muli v7 c2048_i32_13
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c1024_i32_16 : BitVec 32 := 1024#32
  let v31 : BitVec 32 := Scalar.muli v6 c1024_i32_16
  let v32 : BitVec 32 := Scalar.addi v28 v31
  let c512_i32_19 : BitVec 32 := 512#32
  let v36 : BitVec 32 := Scalar.muli v4 c512_i32_19
  let v37 : BitVec 32 := Scalar.addi v32 v36
  let c768_i32_453 : BitVec 32 := 768#32
  ![v37.toNat, 768]
def k0_dev19 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_448 : BitVec 32 := 3#32
  let v529 : BitVec 32 := Scalar.xori v2 c3_i32_448
  let c1_i32_451 : BitVec 32 := 1#32
  let v530 : BitVec 32 := Scalar.muli v529 c1_i32_451
  let v531 : BitVec 32 := Scalar.addi c0_i32_452 v530
  v531.toNat
def k0_dev20 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_455 : BitVec 32 := 1#32
  let v538 : BitVec 32 := Scalar.xori v2 c1_i32_455
  let c1_i32_458 : BitVec 32 := 1#32
  let v539 : BitVec 32 := Scalar.muli v538 c1_i32_458
  let v540 : BitVec 32 := Scalar.addi c0_i32_459 v539
  v540.toNat
def k0_dev21 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v547 : BitVec 32 := Scalar.xori v2 c4_i32_462
  let c1_i32_465 : BitVec 32 := 1#32
  let v548 : BitVec 32 := Scalar.muli v547 c1_i32_465
  let v549 : BitVec 32 := Scalar.addi c0_i32_466 v548
  v549.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1024_i32 : BitVec 32 := 1024#32
  let v11 : BitVec 32 := Scalar.muli v4 c1024_i32
  let v12 : BitVec 32 := Scalar.addi v8 v11
  let c2_i32 : BitVec 32 := 2#32
  let v7 : BitVec 32 := Scalar.shrui v2 c2_i32
  let c512_i32 : BitVec 32 := 512#32
  let v16 : BitVec 32 := Scalar.muli v7 c512_i32
  let v17 : BitVec 32 := Scalar.addi v12 v16
  let v576 : Index := Scalar.indexCast v17
  let c0_495 : Index := 0#32
  ![v576.toNat, 0]
def k0_off38 (d0 : Dev nD) : Fin 2 → Nat :=
  let c1024_i32_497 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrui v2 c2_i32
  let c512_i32_496 : BitVec 32 := 512#32
  let v579 : BitVec 32 := Scalar.muli v7 c512_i32_496
  let v580 : BitVec 32 := Scalar.addi c1024_i32_497 v579
  let v581 : Index := Scalar.indexCast v580
  let c0_498 : Index := 0#32
  ![v581.toNat, 0]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c2048_i32 : BitVec 32 := 2048#32
  let v8 : BitVec 32 := Scalar.muli v6 c2048_i32
  let c1024_i32 : BitVec 32 := 1024#32
  let v11 : BitVec 32 := Scalar.muli v4 c1024_i32
  let v12 : BitVec 32 := Scalar.addi v8 v11
  let c2_i32 : BitVec 32 := 2#32
  let v7 : BitVec 32 := Scalar.shrui v2 c2_i32
  let c512_i32 : BitVec 32 := 512#32
  let v16 : BitVec 32 := Scalar.muli v7 c512_i32
  let v17 : BitVec 32 := Scalar.addi v12 v16
  let c0_i32_509 : BitVec 32 := 0#32
  ![v17.toNat, 0]
def k0_dev22 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_504 : BitVec 32 := 4#32
  let v590 : BitVec 32 := Scalar.xori v2 c4_i32_504
  let c1_i32_507 : BitVec 32 := 1#32
  let v591 : BitVec 32 := Scalar.muli v590 c1_i32_507
  let v592 : BitVec 32 := Scalar.addi c0_i32_508 v591
  v592.toNat
def k0_dev23 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_511 : BitVec 32 := 3#32
  let v599 : BitVec 32 := Scalar.xori v2 c3_i32_511
  let c1_i32_514 : BitVec 32 := 1#32
  let v600 : BitVec 32 := Scalar.muli v599 c1_i32_514
  let v601 : BitVec 32 := Scalar.addi c0_i32_515 v600
  v601.toNat
def k0_dev24 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_518 : BitVec 32 := 1#32
  let v608 : BitVec 32 := Scalar.xori v2 c1_i32_518
  let c1_i32_521 : BitVec 32 := 1#32
  let v609 : BitVec 32 := Scalar.muli v608 c1_i32_521
  let v610 : BitVec 32 := Scalar.addi c0_i32_522 v609
  v610.toNat
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c2_i32 : BitVec 32 := 2#32
  let v7 : BitVec 32 := Scalar.shrui v2 c2_i32
  let c1024_i32_9 : BitVec 32 := 1024#32
  let v21 : BitVec 32 := Scalar.muli v7 c1024_i32_9
  let v22 : BitVec 32 := Scalar.addi v18 v21
  let v5 : BitVec 32 := Scalar.xori v3 v4
  let c1_i32_1 : BitVec 32 := 1#32
  let v6 : BitVec 32 := Scalar.andi v5 c1_i32_1
  let c512_i32_12 : BitVec 32 := 512#32
  let v26 : BitVec 32 := Scalar.muli v6 c512_i32_12
  let v27 : BitVec 32 := Scalar.addi v22 v26
  let v637 : Index := Scalar.indexCast v27
  let c384_551 : Index := 384#32
  ![v637.toNat, 384]
def k0_off41 (d0 : Dev nD) : Fin 2 → Nat :=
  let c1024_i32_553 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let v5 : BitVec 32 := Scalar.xori v3 v4
  let c1_i32_1 : BitVec 32 := 1#32
  let v6 : BitVec 32 := Scalar.andi v5 c1_i32_1
  let c512_i32_552 : BitVec 32 := 512#32
  let v640 : BitVec 32 := Scalar.muli v6 c512_i32_552
  let v641 : BitVec 32 := Scalar.addi c1024_i32_553 v640
  let v642 : Index := Scalar.indexCast v641
  let c0_554 : Index := 0#32
  ![v642.toNat, 0]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrui v3 c1_i32_0
  let c2048_i32_6 : BitVec 32 := 2048#32
  let v18 : BitVec 32 := Scalar.muli v4 c2048_i32_6
  let c2_i32 : BitVec 32 := 2#32
  let v7 : BitVec 32 := Scalar.shrui v2 c2_i32
  let c1024_i32_9 : BitVec 32 := 1024#32
  let v21 : BitVec 32 := Scalar.muli v7 c1024_i32_9
  let v22 : BitVec 32 := Scalar.addi v18 v21
  let v5 : BitVec 32 := Scalar.xori v3 v4
  let c1_i32_1 : BitVec 32 := 1#32
  let v6 : BitVec 32 := Scalar.andi v5 c1_i32_1
  let c512_i32_12 : BitVec 32 := 512#32
  let v26 : BitVec 32 := Scalar.muli v6 c512_i32_12
  let v27 : BitVec 32 := Scalar.addi v22 v26
  let c384_i32_565 : BitVec 32 := 384#32
  ![v27.toNat, 384]
def k0_dev25 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_560 : BitVec 32 := 1#32
  let v651 : BitVec 32 := Scalar.xori v2 c1_i32_560
  let c1_i32_563 : BitVec 32 := 1#32
  let v652 : BitVec 32 := Scalar.muli v651 c1_i32_563
  let v653 : BitVec 32 := Scalar.addi c0_i32_564 v652
  v653.toNat
def k0_dev26 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_567 : BitVec 32 := 4#32
  let v660 : BitVec 32 := Scalar.xori v2 c4_i32_567
  let c1_i32_570 : BitVec 32 := 1#32
  let v661 : BitVec 32 := Scalar.muli v660 c1_i32_570
  let v662 : BitVec 32 := Scalar.addi c0_i32_571 v661
  v662.toNat
def k0_dev27 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_574 : BitVec 32 := 3#32
  let v669 : BitVec 32 := Scalar.xori v2 c3_i32_574
  let c1_i32_577 : BitVec 32 := 1#32
  let v670 : BitVec 32 := Scalar.muli v669 c1_i32_577
  let v671 : BitVec 32 := Scalar.addi c0_i32_578 v670
  v671.toNat
def k0_dev28 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_594 : BitVec 32 := 1#32
  let v691 : BitVec 32 := Scalar.xori v2 c1_i32_594
  let c1_i32_597 : BitVec 32 := 1#32
  let v692 : BitVec 32 := Scalar.muli v691 c1_i32_597
  let v693 : BitVec 32 := Scalar.addi c0_i32_598 v692
  v693.toNat
def k0_dev29 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_601 : BitVec 32 := 4#32
  let v700 : BitVec 32 := Scalar.xori v2 c4_i32_601
  let c1_i32_603 : BitVec 32 := 1#32
  let v701 : BitVec 32 := Scalar.muli v700 c1_i32_603
  let v702 : BitVec 32 := Scalar.addi c0_i32_604 v701
  v702.toNat
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_620 : BitVec 32 := 3#32
  let v722 : BitVec 32 := Scalar.xori v2 c3_i32_620
  let c1_i32_623 : BitVec 32 := 1#32
  let v723 : BitVec 32 := Scalar.muli v722 c1_i32_623
  let v724 : BitVec 32 := Scalar.addi c0_i32_624 v723
  v724.toNat
def k0_dev31 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_627 : BitVec 32 := 1#32
  let v731 : BitVec 32 := Scalar.xori v2 c1_i32_627
  let c1_i32_630 : BitVec 32 := 1#32
  let v732 : BitVec 32 := Scalar.muli v731 c1_i32_630
  let v733 : BitVec 32 := Scalar.addi c0_i32_631 v732
  v733.toNat
def k0_dev32 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_647 : BitVec 32 := 4#32
  let v753 : BitVec 32 := Scalar.xori v2 c4_i32_647
  let c1_i32_650 : BitVec 32 := 1#32
  let v754 : BitVec 32 := Scalar.muli v753 c1_i32_650
  let v755 : BitVec 32 := Scalar.addi c0_i32_651 v754
  v755.toNat
def k0_dev33 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_654 : BitVec 32 := 3#32
  let v762 : BitVec 32 := Scalar.xori v2 c3_i32_654
  let c1_i32_657 : BitVec 32 := 1#32
  let v763 : BitVec 32 := Scalar.muli v762 c1_i32_657
  let v764 : BitVec 32 := Scalar.addi c0_i32_658 v763
  v764.toNat
def k0_dev34 (d0 : Dev nD) : Nat :=
  let c0_i32_676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_673 : BitVec 32 := 4#32
  let v783 : BitVec 32 := Scalar.xori v2 c4_i32_673
  let c1_i32_675 : BitVec 32 := 1#32
  let v784 : BitVec 32 := Scalar.muli v783 c1_i32_675
  let v785 : BitVec 32 := Scalar.addi c0_i32_676 v784
  v785.toNat
def k0_dev35 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v804 : BitVec 32 := Scalar.xori v2 c1_i32_691
  let c1_i32_694 : BitVec 32 := 1#32
  let v805 : BitVec 32 := Scalar.muli v804 c1_i32_694
  let v806 : BitVec 32 := Scalar.addi c0_i32_695 v805
  v806.toNat
def k0_dev36 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_710 : BitVec 32 := 3#32
  let v825 : BitVec 32 := Scalar.xori v2 c3_i32_710
  let c1_i32_713 : BitVec 32 := 1#32
  let v826 : BitVec 32 := Scalar.muli v825 c1_i32_713
  let v827 : BitVec 32 := Scalar.addi c0_i32_714 v826
  v827.toNat
def k0_dev37 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_730 : BitVec 32 := 4#32
  let v847 : BitVec 32 := Scalar.xori v2 c4_i32_730
  let c1_i32_732 : BitVec 32 := 1#32
  let v848 : BitVec 32 := Scalar.muli v847 c1_i32_732
  let v849 : BitVec 32 := Scalar.addi c0_i32_733 v848
  v849.toNat
def k0_dev38 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_749 : BitVec 32 := 1#32
  let v869 : BitVec 32 := Scalar.xori v2 c1_i32_749
  let c1_i32_752 : BitVec 32 := 1#32
  let v870 : BitVec 32 := Scalar.muli v869 c1_i32_752
  let v871 : BitVec 32 := Scalar.addi c0_i32_753 v870
  v871.toNat
def k0_dev39 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_769 : BitVec 32 := 3#32
  let v891 : BitVec 32 := Scalar.xori v2 c3_i32_769
  let c1_i32_772 : BitVec 32 := 1#32
  let v892 : BitVec 32 := Scalar.muli v891 c1_i32_772
  let v893 : BitVec 32 := Scalar.addi c0_i32_773 v892
  v893.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Blocks.lean ====
/-
Blocks of two-dimensional buffers, addressed by natural numbers.

Every transfer of the kernel moves a block of rows and columns of a two-dimensional buffer. This module states what it
means for a device to hold such a block (`held`) with contents given as a function of the row and column numbers, and
proves the few facts the run needs: a block is cut along rows or columns, a share is cut, the contents are changed where
they agree, a slice of a memref is a block, a load reads a block, a store or a landing transfer fills one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The names of the duties of one round of a semaphore: the three neighbours. -/
abbrev Duty : Type := Fin 3
/-- The ghost state: the pipeline library's, and the rounds of this kernel's semaphores. -/
abbrev GS : Type := UR sig nD τ × URounds (GSem nD τ sig) Duty

local notation "𝕄" => MT nD τ sig Unit (Elt F) ℕ GS ℕ

/-- A two-dimensional shape. -/
abbrev Sh (sz : Fin 2 → ℕ) : Shape := ⟨2, sz⟩

/-- The indices of the block of `h` rows from `r` and `w` columns from `c`. -/
def block (sz : Fin 2 → ℕ) (r h c w : ℕ) : Finset (Sh sz).Idx :=
  Finset.univ.filter fun i => (r ≤ (i 0).val ∧ (i 0).val < r + h) ∧ c ≤ (i 1).val ∧ (i 1).val < c + w

theorem mem_block {sz : Fin 2 → ℕ} {r h c w : ℕ} {i : (Sh sz).Idx} :
    i ∈ block sz r h c w ↔ (r ≤ (i 0).val ∧ (i 0).val < r + h) ∧ c ≤ (i 1).val ∧ (i 1).val < c + w := by
  unfold block; rw [Finset.mem_filter]; exact ⟨fun h => h.2, fun h => ⟨Finset.mem_univ _, h⟩⟩

theorem block_rows (sz : Fin 2 → ℕ) (r h₁ h₂ c w : ℕ) :
    block sz r (h₁ + h₂) c w = block sz r h₁ c w ∪ block sz (r + h₁) h₂ c w := by
  ext i; rw [Finset.mem_union, mem_block, mem_block, mem_block]; omega
theorem disjoint_rows (sz : Fin 2 → ℕ) (r h₁ h₂ c w : ℕ) :
    Disjoint (block sz r h₁ c w) (block sz (r + h₁) h₂ c w) := by
  rw [Finset.disjoint_left]; intro i; rw [mem_block, mem_block]; omega
theorem block_cols (sz : Fin 2 → ℕ) (r h c w₁ w₂ : ℕ) :
    block sz r h c (w₁ + w₂) = block sz r h c w₁ ∪ block sz r h (c + w₁) w₂ := by
  ext i; rw [Finset.mem_union, mem_block, mem_block, mem_block]; omega
theorem disjoint_cols (sz : Fin 2 → ℕ) (r h c w₁ w₂ : ℕ) :
    Disjoint (block sz r h c w₁) (block sz r h (c + w₁) w₂) := by
  rw [Finset.disjoint_left]; intro i; rw [mem_block, mem_block]; omega
theorem block_whole (a b : ℕ) : block ![a, b] 0 a 0 b = Finset.univ := by
  ext i; rw [mem_block]
  have h0 := (i 0).isLt; have h1 := (i 1).isLt
  refine ⟨fun _ => Finset.mem_univ _, fun _ => ⟨⟨Nat.zero_le _, ?_⟩, Nat.zero_le _, ?_⟩⟩
  · rw [Nat.zero_add]; exact h0
  · rw [Nat.zero_add]; exact h1

/-- A rectangle with unit strides is the block at its offsets. -/
theorem rect_set {sz : Fin 2 → ℕ} (off size : Fin 2 → ℕ) (inb) (r c : ℕ) (ho : off = ![r, c]) :
    (Rect.unit (s := Sh sz) off size inb).set = block sz r (size 0) c (size 1) := by
  subst ho
  ext i
  refine (LoadRect.mem_set _).trans ?_
  rw [mem_block]
  constructor
  · intro h
    obtain ⟨j0, hj0, e0⟩ := h 0
    obtain ⟨j1, hj1, e1⟩ := h 1
    change (i 0).val = r + 1 * j0 at e0
    change (i 1).val = c + 1 * j1 at e1
    change j0 < size 0 at hj0
    change j1 < size 1 at hj1
    omega
  · rintro ⟨⟨h1, h2⟩, h3, h4⟩ a
    have key : ∀ a : Fin 2, ∃ j, j < size a ∧ (i a).val = (![r, c] : Fin 2 → ℕ) a + 1 * j := by
      intro a; fin_cases a
      · exact ⟨(i 0).val - r, by show _ < size 0; omega, by show (i 0).val = r + 1 * _; omega⟩
      · exact ⟨(i 1).val - c, by show _ < size 1; omega, by show (i 1).val = c + 1 * _; omega⟩
    exact key a

/-- Contents given by row and column numbers, as contents of a two-dimensional shape. -/
def flat {A : Type} {sz : Fin 2 → ℕ} (φ : ℕ → ℕ → A) : (Sh sz).Idx → A := fun i => φ (i 0).val (i 1).val

/-- The index of a rectangle's element: the offset added. -/
theorem flat_emb {A : Type} {sz : Fin 2 → ℕ} (off size : Fin 2 → ℕ) (inb) (r c : ℕ) (ho : off = ![r, c]) (φ : ℕ → ℕ → A)
    (x : (Sh size).Idx) :
    flat φ ((Rect.unit (s := Sh sz) off size inb).emb x) = φ (r + (x 0).val) (c + (x 1).val) := by
  subst ho
  unfold flat
  have e0 : ((Rect.unit (s := Sh sz) ![r, c] size inb).emb x 0).val = r + (x 0).val := by
    rw [Rect.emb_apply]; show r + 1 * _ = _; rw [Nat.one_mul]
  have e1 : ((Rect.unit (s := Sh sz) ![r, c] size inb).emb x 1).val = c + (x 1).val := by
    rw [Rect.emb_apply]; show c + 1 * _ = _; rw [Nat.one_mul]
  rw [e0, e1]

instance elt_nonempty (e : EltTy) : Nonempty (Elt F e) := inferInstance

section Held

variable {sp : Space} {sz : Fin 2 → ℕ} {e : EltTy}

/-- A buffer filled, where the memref reaches, with contents given by row and column numbers. -/
def fill (M : Memref sig .tc sp (Sh sz) e) (φ : ℕ → ℕ → Elt F e) : M.view.ty.Contents (Elt F) :=
  M.view.write (Elt F) (fun _ => Classical.arbitrary _) (flat φ) Finset.univ

/-- Device `d` holds the share `q` of the block of `h` rows from `r` and `w` columns from `c` of the memref, with
    contents `φ`. -/
def held (M : Memref sig .tc sp (Sh sz) e) (d : Dev nD) (q : PosShare TreeShare) (r h c w : ℕ) (φ : ℕ → ℕ → Elt F e) : sProp 𝕄 :=
  M.view.loc (d : Thread nD τ) ↦[(block sz r h c w).map M.view.emb]{q} fill M φ

variable (M : Memref sig .tc sp (Sh sz) e) (d : Dev nD) (q : PosShare TreeShare)

instance held_storable (r h c w φ) : BI.Storable (upEmb : UEmb _ 𝕄) (held (F := F) M d q r h c w φ) := by
  unfold held; infer_instance

theorem read_fill (φ : ℕ → ℕ → Elt F e) : M.view.read (Elt F) (fill M φ) = flat φ := by
  unfold fill; exact View.read_write_univ _ _

theorem agree_emb {f g : M.view.ty.Contents (Elt F)} {x : (Sh sz).Idx}
    (h : M.view.read (Elt F) f x = M.view.read (Elt F) g x) : f (M.view.emb x) = g (M.view.emb x) := by
  unfold View.read at h
  exact (cast_inj _).mp h

/-- What a device holds of a block depends on the contents in the block only. -/
theorem pt_held (f : M.view.ty.Contents (Elt F)) (φ : ℕ → ℕ → Elt F e) {r h c w : ℕ}
    (hf : ∀ x ∈ block sz r h c w, M.view.read (Elt F) f x = flat φ x) :
    (M.view.loc (d : Thread nD τ) ↦[(block sz r h c w).map M.view.emb]{q} f : sProp 𝕄) = held M d q r h c w φ := by
  unfold held
  refine pointsTo_congr fun i hi => ?_
  obtain ⟨x, hx, rfl⟩ := Finset.mem_map.mp hi
  exact agree_emb M ((hf x hx).trans (congrFun (read_fill M φ).symm x))

theorem held_congr {φ ψ : ℕ → ℕ → Elt F e} {r h c w : ℕ}
    (hf : ∀ i j, r ≤ i → i < r + h → c ≤ j → j < c + w → φ i j = ψ i j) :
    (held M d q r h c w φ : sProp 𝕄) = held M d q r h c w ψ :=
  pt_held M d q _ ψ fun x hx => by
    rw [read_fill]; rw [mem_block] at hx; exact hf _ _ hx.1.1 hx.1.2 hx.2.1 hx.2.2

theorem held_rows (r h₁ h₂ c w : ℕ) (φ : ℕ → ℕ → Elt F e) :
    (held M d q r (h₁ + h₂) c w φ : sProp 𝕄) ⊣⊢ iprop(held M d q r h₁ c w φ ∗ held M d q (r + h₁) h₂ c w φ) := by
  unfold held
  rw [block_rows, Finset.map_union]
  exact pointsTo_union ((Finset.disjoint_map _).mpr (disjoint_rows ..))

theorem held_cols (r h c w₁ w₂ : ℕ) (φ : ℕ → ℕ → Elt F e) :
    (held M d q r h c (w₁ + w₂) φ : sProp 𝕄) ⊣⊢ iprop(held M d q r h c w₁ φ ∗ held M d q r h (c + w₁) w₂ φ) := by
  unfold held
  rw [block_cols, Finset.map_union]
  exact pointsTo_union ((Finset.disjoint_map _).mpr (disjoint_cols ..))

theorem held_halves (r h c w : ℕ) (φ : ℕ → ℕ → Elt F e) :
    (held M d q r h c w φ : sProp 𝕄) ⊣⊢ iprop(held M d q.left r h c w φ ∗ held M d q.right r h c w φ) := by
  unfold held; exact pointsTo_share (PosShare.mem_left_op_right q)

/-- A whole buffer is the block of all its rows and columns. -/
theorem held_whole {a b : ℕ} (M : Memref sig .tc sp (Sh ![a, b]) e) (hM : M.view.set = Finset.univ) (f : M.view.ty.Contents (Elt F)) (φ : ℕ → ℕ → Elt F e)
    (hf : ∀ x, M.view.read (Elt F) f x = flat φ x) :
    (M.view.loc (d : Thread nD τ) ↦{q} f : sProp 𝕄) = held M d q 0 a 0 b φ := by
  rw [← pt_held M d q f φ fun x _ => hf x, block_whole]
  show _ = (M.view.loc (d : Thread nD τ) ↦[M.view.set]{q} f : sProp 𝕄)
  rw [hM]

section Slice

variable {off size : Fin 2 → ℕ} {inb : ∀ a, off a + size a ≤ sz a} {r h c w : ℕ}

/-- What a slice of a memref reaches is a block of it. -/
theorem slice_held (ho : off = ![r, c]) (hh : size 0 = h) (hw : size 1 = w) (hr) (f : M.view.ty.Contents (Elt F)) (φ : ℕ → ℕ → Elt F e)
    (hf : ∀ x : (Sh size).Idx, M.view.read (Elt F) f ((Rect.unit (s := Sh sz) off size inb).emb x) = φ (r + (x 0).val) (c + (x 1).val)) :
    ((M.slice (Rect.unit (s := Sh sz) off size inb) hr).view.loc (d : Thread nD τ)
        ↦[(M.slice (Rect.unit (s := Sh sz) off size inb) hr).view.set]{q} f : sProp 𝕄) = held M d q r h c w φ := by
  subst hh hw
  show (M.view.loc (d : Thread nD τ) ↦[(M.view.slice (Rect.unit (s := Sh sz) off size inb)).set]{q} f : sProp 𝕄) = _
  rw [View.set_slice, rect_set off size inb r c ho]
  refine pt_held M d q f φ fun x hx => ?_
  rw [← rect_set off size inb r c ho] at hx
  obtain ⟨y, hy⟩ := LoadRect.exists_idx_of_mem _ hx
  have hy' : (Rect.unit (s := Sh sz) off size inb).emb y = x := hy
  rw [← hy', hf y, flat_emb off size inb r c ho]

/-- What a slice reads of contents given by row and column numbers. -/
theorem read_slice (ho : off = ![r, c]) (hr) (φ : ℕ → ℕ → Elt F e) (x : (Sh size).Idx) :
    (M.slice (Rect.unit (s := Sh sz) off size inb) hr).view.read (Elt F) (fill M φ) x = φ (r + (x 0).val) (c + (x 1).val) := by
  show M.view.read (Elt F) (fill M φ) ((Rect.unit (s := Sh sz) off size inb).emb x) = _
  rw [read_fill, flat_emb off size inb r c ho]

/-- A slice, as a source: the block with its contents. -/
theorem slice_fill (ho : off = ![r, c]) (hh : size 0 = h) (hw : size 1 = w) (hr) (φ : ℕ → ℕ → Elt F e) :
    ((M.slice (Rect.unit (s := Sh sz) off size inb) hr).view.loc (d : Thread nD τ)
        ↦[(M.slice (Rect.unit (s := Sh sz) off size inb) hr).view.set]{q} fill M φ : sProp 𝕄) = held M d q r h c w φ :=
  slice_held M d q ho hh hw hr _ φ fun x => read_slice M ho hr φ x

/-- A slice written whole with what it is to hold: the block with those contents. -/
theorem slice_write (ho : off = ![r, c]) (hh : size 0 = h) (hw : size 1 = w) (hr) (f : M.view.ty.Contents (Elt F)) (v : (Sh size).Idx → Elt F e)
    (φ : ℕ → ℕ → Elt F e) (hv : ∀ x : (Sh size).Idx, v x = φ (r + (x 0).val) (c + (x 1).val)) :
    ((M.slice (Rect.unit (s := Sh sz) off size inb) hr).view.loc (d : Thread nD τ)
        ↦[(M.slice (Rect.unit (s := Sh sz) off size inb) hr).view.set]{q}
          (M.slice (Rect.unit (s := Sh sz) off size inb) hr).view.write (Elt F) f v Finset.univ : sProp 𝕄) = held M d q r h c w φ :=
  slice_held M d q ho hh hw hr _ φ fun x => by
    refine Eq.trans ?_ (hv x)
    exact congrFun (View.read_write_univ (v := (M.slice (Rect.unit (s := Sh sz) off size inb) hr).view) f v) x

end Slice

end Held

/-! ## Loads and stores of blocks -/

/-- A device runs a program, under no calls. -/
abbrev runs (d : Dev nD) {A : Type} (p : Prog (TpuEff nD τ sig (Elt F) Λ₀ .tc) A) (Q : A → sProp 𝕄) : sProp 𝕄 :=
  wp frame (wpE (defs₀ (F := F)) Variants.none (d : Thread nD τ) none) Set.univ p Q

section Access

variable {sz : Fin 2 → ℕ} {e : EltTy} (M : Memref sig .tc (CoreSpace.vmem) (Sh sz) e) (d : Dev nD) (q : PosShare TreeShare)
variable {off size : Fin 2 → ℕ} {inb : ∀ a, off a + size a ≤ sz a} {A : Type}

/-- A load inside a block that is held reads the contents there. -/
theorem load_held {Q : A → sProp 𝕄} (r c : ℕ) (ho : off = ![r, c]) {R H C W : ℕ} (φ : ℕ → ℕ → Elt F e)
    (hb : R ≤ r ∧ r + size 0 ≤ R + H ∧ C ≤ c ∧ c + size 1 ≤ C + W) {hl : M.view.LoadsAt (Rect.unit (s := Sh sz) off size inb).toLoadRect}
    {k : ((Sh size).Idx → Elt F e) → Prog (TpuEff nD τ sig (Elt F) Λ₀ .tc) A} :
    (held M d q R H C W φ : sProp 𝕄)
      ⊢ iprop((held M d q R H C W φ -∗ runs d (k fun x => φ (r + (x 0).val) (c + (x 1).val)) Q)
          -∗ runs d (.op (.load M (Rect.unit (s := Sh sz) off size inb).toLoadRect hl) k) Q) := by
  have hx : M.view.readAt (Elt F) (Rect.unit (s := Sh sz) off size inb).toLoadRect (fill M φ) = fun x => φ (r + (x 0).val) (c + (x 1).val) := by
    funext x
    exact (congrFun (read_fill M φ) _).trans (flat_emb off size inb r c ho φ x)
  have hk : k (fun x => φ (r + (x 0).val) (c + (x 1).val))
      = k (M.view.readAt (Elt F) (Rect.unit (s := Sh sz) off size inb).toLoadRect (fill M φ)) := congrArg k hx.symm
  rw [hk]
  unfold held
  refine wp_load Variants.none (d : Thread nD τ) none Set.univ (m := M) ?_
  refine Finset.map_subset_map.mpr fun i hi => ?_
  have hi' : i ∈ block sz r (size 0) c (size 1) := by rw [← rect_set off size inb r c ho]; exact hi
  rw [mem_block] at hi' ⊢
  omega

/-- A store over a whole block leaves it with the contents stored. -/
theorem store_held {Q : A → sProp 𝕄} (r c : ℕ) (ho : off = ![r, c]) {h w : ℕ} (hh : size 0 = h) (hw : size 1 = w) {v : (Sh size).Idx → Elt F e} {φ : ℕ → ℕ → Elt F e}
    (ψ : ℕ → ℕ → Elt F e) (hv : ∀ x : (Sh size).Idx, v x = ψ (r + (x 0).val) (c + (x 1).val))
    {hx : (M.access (Rect.unit (s := Sh sz) off size inb)).Stores Finset.univ} {hm}
    {k : PUnit → Prog (TpuEff nD τ sig (Elt F) Λ₀ .tc) A} :
    (held M d fullShare r h c w φ : sProp 𝕄)
      ⊢ iprop((held M d fullShare r h c w ψ -∗ runs d (k ⟨⟩) Q)
          -∗ runs d (.op (.store M (Rect.unit (s := Sh sz) off size inb) v Finset.univ hx hm) k) Q) := by
  have hr : ∀ a, (Rect.unit (s := Sh sz) off size inb).stride a = 1 := fun _ => rfl
  rw [← slice_fill M d fullShare ho hh hw hr φ, ← slice_write M d fullShare ho hh hw hr (fill M φ) v ψ hv]
  exact wp_store Variants.none (d : Thread nD τ) none Set.univ (m := M) (r := Rect.unit (s := Sh sz) off size inb)
    (Mk := Finset.univ) (Finset.Subset.refl _)

end Access

end Cert.AllReduce
-- ==== Proof.Plan.lean ====
/-
The plan of the run: the mesh, the rows each device works on, what every buffer holds at every stage, and what passes
through every semaphore.

The eight devices are the corners of a cube. The columns of the array are cut into three parts; part `p` exchanges along
the three dimensions of the cube in the order `p`, `p + 1`, `p + 2`. It halves the rows three times, so that each device
ends with the sum over all eight devices on one eighth of the rows, and then passes the eighths back in reverse order.
-/
module

public import proofs.«01_k».proof.Proof.Blocks

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

/-! ## The mesh -/

/-- The coordinate of a device along dimension `j` of the cube. -/
def bit (j : Fin 3) (d : Dev nD) : ℕ :=
  match j with
  | 0 => (d.val % 4 + d.val % 4 / 2) % 2
  | 1 => d.val % 4 / 2
  | 2 => d.val / 4

/-- The neighbour along dimension `j`. -/
def flip (j : Fin 3) (d : Dev nD) : Dev nD :=
  match j with
  | 0 => ⟨(d.val ^^^ 1) % 8, Nat.mod_lt _ (by decide)⟩
  | 1 => ⟨(d.val ^^^ 3) % 8, Nat.mod_lt _ (by decide)⟩
  | 2 => ⟨(d.val ^^^ 4) % 8, Nat.mod_lt _ (by decide)⟩

/-- Part `p`'s `k`-th coordinate of a device, and its `k`-th neighbour. -/
def bt (p k : Fin 3) (d : Dev nD) : ℕ := bit (p + k) d
def nb (p k : Fin 3) (d : Dev nD) : Dev nD := flip (p + k) d

theorem flip_flip (j : Fin 3) (d : Dev nD) : flip j (flip j d) = d := by revert j d; decide +kernel
theorem nb_nb (p k : Fin 3) (d : Dev nD) : nb p k (nb p k d) = d := flip_flip _ d
theorem bt_le (p k : Fin 3) (d : Dev nD) : bt p k d ≤ 1 := by revert p k d; decide +kernel
theorem bt_nb (p k : Fin 3) (d : Dev nD) : bt p k (nb p k d) = 1 - bt p k d := by revert p k d; decide +kernel
theorem bt_other (p k l : Fin 3) (d : Dev nD) (h : k ≠ l) : bt p k (nb p l d) = bt p k d := by
  revert p k l d; decide +kernel

/-- A coordinate, or the other one. -/
def fl (f : Bool) (b : ℕ) : ℕ := if f then 1 - b else b

theorem fl_not (f : Bool) {b : ℕ} (h : b ≤ 1) : fl f (1 - b) = fl (!f) b := by
  cases f
  · rfl
  · show 1 - (1 - b) = b; omega

/-- The first row of the half, the quarter, the eighth of the rows at a device's coordinates, some of them flipped. -/
def hr (p : Fin 3) (d : Dev nD) (f : Bool) : ℕ := 2048 * fl f (bt p 0 d)
def qr (p : Fin 3) (d : Dev nD) (f g : Bool) : ℕ := 2048 * fl f (bt p 0 d) + 1024 * fl g (bt p 1 d)
def er (p : Fin 3) (d : Dev nD) (f g h : Bool) : ℕ :=
  2048 * fl f (bt p 0 d) + 1024 * fl g (bt p 1 d) + 512 * fl h (bt p 2 d)

theorem qr_nb0 (p : Fin 3) (d : Dev nD) (f g : Bool) : qr p (nb p 0 d) f g = qr p d (!f) g := by
  unfold qr; rw [bt_nb, bt_other p 1 0 d (by decide), fl_not f (bt_le ..)]
theorem er_nb0 (p : Fin 3) (d : Dev nD) (f g h : Bool) : er p (nb p 0 d) f g h = er p d (!f) g h := by
  unfold er; rw [bt_nb, bt_other p 1 0 d (by decide), bt_other p 2 0 d (by decide), fl_not f (bt_le ..)]
theorem er_nb1 (p : Fin 3) (d : Dev nD) (f g h : Bool) : er p (nb p 1 d) f g h = er p d f (!g) h := by
  unfold er; rw [bt_nb, bt_other p 0 1 d (by decide), bt_other p 2 1 d (by decide), fl_not g (bt_le ..)]
theorem er_nb2 (p : Fin 3) (d : Dev nD) (f g h : Bool) : er p (nb p 2 d) f g h = er p d f g (!h) := by
  unfold er; rw [bt_nb, bt_other p 0 2 d (by decide), bt_other p 1 2 d (by decide), fl_not h (bt_le ..)]

/-- The first column and the width of each part. -/
def cs (p : Fin 3) : ℕ := match p with | 0 => 0 | 1 => 384 | 2 => 768
def wd (p : Fin 3) : ℕ := match p with | 0 => 384 | 1 => 384 | 2 => 256

theorem wd_pos (p : Fin 3) : 0 < wd p := by revert p; decide

/-- The device at given coordinates of the cube, and the device that owns, in part `p`, a given eighth of the rows. -/
def corner (x y z : ℕ) : Dev nD := ⟨(4 * z + 2 * y + (x + y) % 2) % 8, Nat.mod_lt _ (by decide)⟩
def ownOf (p : Fin 3) (a b c : ℕ) : Dev nD := match p with | 0 => corner a b c | 1 => corner c a b | 2 => corner b c a
def own (p : Fin 3) (r : ℕ) : Dev nD := ownOf p (r / 2048) (r / 1024 % 2) (r / 512 % 2)

theorem ownOf_bt (p : Fin 3) (d : Dev nD) : ownOf p (bt p 0 d) (bt p 1 d) (bt p 2 d) = d := by revert p d; decide +kernel

/-- A row of a device's own eighth is owned by it. -/
theorem own_er (p : Fin 3) (d : Dev nD) (i : ℕ) (h₁ : er p d false false false ≤ i) (h₂ : i < er p d false false false + 512) : own p i = d := by
  unfold er at h₁ h₂
  have e : ∀ b, fl false b = b := fun _ => rfl
  rw [e, e, e] at h₁ h₂
  have b0 := bt_le p 0 d; have b1 := bt_le p 1 d; have b2 := bt_le p 2 d
  unfold own
  have a0 : i / 2048 = bt p 0 d := by omega
  have a1 : i / 1024 % 2 = bt p 1 d := by omega
  have a2 : i / 512 % 2 = bt p 2 d := by omega
  rw [a0, a1, a2, ownOf_bt]

/-! ## The buffers -/

abbrev xM : Memref sig .tc .hbm (Sh ![4096, 1024]) .f32 := Memref.whole main_arg0
abbrev vM : Memref sig .tc .vmem (Sh ![4096, 1024]) .f32 := Memref.whole cc0_scratch0
abbrev oM : Memref sig .tc .vmem (Sh ![4096, 1024]) .bf16 := Memref.whole cc0_stg0_0
/-- The staging buffer and the landing buffer of part `p`. -/
@[reducible] def stM (p : Fin 3) : Memref sig .tc .vmem (Sh ![2048, wd p]) .bf16 :=
  match p with
  | 0 => Memref.whole cc0_scratch1
  | 1 => Memref.whole cc0_scratch2
  | 2 => Memref.whole cc0_scratch3
@[reducible] def rbM (p : Fin 3) : Memref sig .tc .vmem (Sh ![3584, wd p]) .bf16 :=
  match p with
  | 0 => Memref.whole cc0_scratch4
  | 1 => Memref.whole cc0_scratch5
  | 2 => Memref.whole cc0_scratch6

/-! ## The contents -/

section Contents

variable (X : Dev nD → ℕ → ℕ → Elt F .f32)

/-- A device's block rounded; then the sums of two, of four and of eight devices' blocks, in the order the kernel adds. -/
def Yv (d : Dev nD) (r c : ℕ) : Elt F .bf16 := FloatOps.truncf .bf16 bitsLt_bf16_f32 (X d r c)
def Av (p : Fin 3) (d : Dev nD) (r c : ℕ) : Elt F .bf16 := FloatOps.addf (Yv X d r c) (Yv X (nb p 0 d) r c)
def Bv (p : Fin 3) (d : Dev nD) (r c : ℕ) : Elt F .bf16 := FloatOps.addf (Av X p d r c) (Av X p (nb p 1 d) r c)
def Cv (p : Fin 3) (d : Dev nD) (r c : ℕ) : Elt F .bf16 := FloatOps.addf (Bv X p d r c) (Bv X p (nb p 2 d) r c)
/-- The result: every row as the device that owns it computes it. -/
def Rv (p : Fin 3) (r c : ℕ) : Elt F .bf16 := Cv X p (own p r) r c

/-- The staging buffer of part `p` on device `d`: the two quarters it sends first. -/
def St (p : Fin 3) (d : Dev nD) (i j : ℕ) : Elt F .bf16 :=
  if i < 1024 then Yv X d (qr p d true true + i) (cs p + j) else Yv X d (qr p d true false + (i - 1024)) (cs p + j)

/-- The landing buffer of part `p` on device `d`: two quarters, two eighths of pairs' sums, one eighth of four devices'
    sums. -/
def Rb (p : Fin 3) (d : Dev nD) (i j : ℕ) : Elt F .bf16 :=
  if i < 1024 then Yv X (nb p 0 d) (qr p d false true + i) (cs p + j)
  else if i < 2048 then Yv X (nb p 0 d) (qr p d false false + (i - 1024)) (cs p + j)
  else if i < 2560 then Av X p (nb p 1 d) (er p d false false true + (i - 2048)) (cs p + j)
  else if i < 3072 then Av X p (nb p 1 d) (er p d false false false + (i - 2560)) (cs p + j)
  else Bv X p (nb p 2 d) (er p d false false false + (i - 3072)) (cs p + j)

end Contents

/-! ## The semaphores -/

/-- The semaphores besides the barrier: that of the local copies, and those of the sends and the arrivals. -/
abbrev Own : Type := (Fin 3 × Fin 3) ⊕ ((Fin 3 × Fin 12) ⊕ (Fin 3 × Fin 12))
abbrev Cx : Type := Unit ⊕ Own
instance : DecidableEq Own := inferInstance
instance : DecidableEq Cx := inferInstance
instance : Fintype Cx := inferInstance
instance (priority := high) : BEq Cx := instBEqOfDecidableEq
@[match_pattern] abbrev bar : Cx := .inl ()
@[match_pattern] abbrev cp (p j : Fin 3) : Cx := .inr (.inl (p, j))
@[match_pattern] abbrev snd (p : Fin 3) (s : Fin 12) : Cx := .inr (.inr (.inl (p, s)))
@[match_pattern] abbrev rcv (p : Fin 3) (s : Fin 12) : Cx := .inr (.inr (.inr (p, s)))

abbrev barS : Sem sig := (SemArray.scalar (sig.barrier 0 rfl) : Sems sig S_).sem

/-- A semaphore of the kernel by its name. -/
def osem (x : Own) : SemLoc sig :=
  match x with
  | .inl (p, j) => .dma (⟨1 + 3 * p.val + j.val, by have := p.isLt; have := j.isLt; show _ < 82; omega⟩ : DmaSem sig)
  | .inr (.inl (p, s)) => .dma (⟨10 + 24 * p.val + s.val, by have := p.isLt; have := s.isLt; show _ < 82; omega⟩ : DmaSem sig)
  | .inr (.inr (p, s)) => .dma (⟨22 + 24 * p.val + s.val, by have := p.isLt; have := s.isLt; show _ < 82; omega⟩ : DmaSem sig)
def ksem (x : Cx) : SemLoc sig := match x with | .inl _ => .reg barS | .inr y => osem y

/-- The name of a semaphore. -/
def dec (g : SemLoc sig) : Option Cx :=
  match g with
  | .reg _ => some bar
  | .dma k =>
    if k.val = 0 then none
    else if k.val < 10 then some (cp (Fin.ofNat 3 ((k.val - 1) / 3)) (Fin.ofNat 3 ((k.val - 1) % 3)))
    else if (k.val - 10) % 24 < 12 then some (snd (Fin.ofNat 3 ((k.val - 10) / 24)) (Fin.ofNat 12 ((k.val - 10) % 24)))
    else some (rcv (Fin.ofNat 3 ((k.val - 10) / 24)) (Fin.ofNat 12 ((k.val - 10) % 24 - 12)))

theorem dec_ksem (x : Cx) : dec (ksem x) = some x := by revert x; decide +kernel
theorem ksem_inj : Function.Injective ksem := fun x y h => Option.some.inj (by rw [← dec_ksem, ← dec_ksem, h])

abbrev kcell (d : Dev nD) (x : Cx) : GSem nD τ sig := ((d : Thread nD τ), ksem x)

/-- The credit of a transfer through a semaphore. -/
def amt (x : Cx) : ℕ :=
  match x with
  | .inl _ => 1
  | cp p j => if j = 2 then 256 * wd p else 128 * wd p
  | snd p s => if s < 2 then 64 * wd p else 32 * wd p
  | rcv p s => if s < 2 then 64 * wd p else 32 * wd p

theorem amt_pos (x : Cx) : 0 < amt x := by revert x; decide +kernel

/-! ## What passes through the semaphores -/

section Pay

variable (X : Dev nD → ℕ → ℕ → Elt F .f32)

/-- A block held with whatever contents. -/
def free {sp : Space} {sz : Fin 2 → ℕ} {e : EltTy} (M : Memref sig .tc sp (Sh sz) e) (d : Dev nD) (r h c w : ℕ) : sProp 𝕄 :=
  iprop(∃ φ, held M d fullShare r h c w φ)

instance free_storable {sp : Space} {sz : Fin 2 → ℕ} {e : EltTy} (M : Memref sig .tc sp (Sh sz) e) (d : Dev nD) (r h c w : ℕ) :
    BI.Storable (upEmb : UEmb _ 𝕄) (free (F := F) M d r h c w) := by unfold free; infer_instance

/-- An eighth of the rows of part `p` of the output on device `e`. -/
abbrev outp (p : Fin 3) (e : Dev nD) (q : PosShare TreeShare) (r : ℕ) (φ : ℕ → ℕ → Elt F .bf16) : sProp 𝕄 :=
  held oM e q r 512 (cs p) (wd p) φ
abbrev outFree (p : Fin 3) (e : Dev nD) (r : ℕ) : sProp 𝕄 := free (F := F) oM e r 512 (cs p) (wd p)
/-- Rows of the landing buffer of part `p` on device `e`. -/
abbrev land (p : Fin 3) (e : Dev nD) (r h : ℕ) : sProp 𝕄 := held (rbM p) e fullShare r h 0 (wd p) (Rb X p e)
abbrev landFree (p : Fin 3) (e : Dev nD) (r h : ℕ) : sProp 𝕄 := free (F := F) (rbM p) e r h 0 (wd p)

/-- What device `e` hands its `k`-th neighbour in part `p` at the barrier: the places that neighbour will write on `e`. -/
def give (p k : Fin 3) (e : Dev nD) : sProp 𝕄 :=
  match k with
  | 0 => iprop(landFree p e 0 1024 ∗ landFree p e 1024 1024 ∗ outFree p e (er p e true false false) ∗ outFree p e (er p e true false true)
      ∗ outFree p e (er p e true true false) ∗ outFree p e (er p e true true true))
  | 1 => iprop(landFree p e 2048 512 ∗ landFree p e 2560 512)
  | 2 => landFree p e 3072 512

/-- What the neighbour along dimension `j` hands device `d` at the barrier. -/
def barPay (d : Dev nD) (j : Fin 3) : sProp 𝕄 :=
  iprop(give (F := F) 0 (j - 0) (flip j d) ∗ give 1 (j - 1) (flip j d) ∗ give 2 (j - 2) (flip j d))

/-- The rows a local copy fetches: the first row and how many. -/
def cpRow (p j : Fin 3) (d : Dev nD) : ℕ := match j with | 0 => qr p d true true | 1 => qr p d true false | 2 => hr p d false
def cpLen (j : Fin 3) : ℕ := match j with | 0 => 1024 | 1 => 1024 | 2 => 2048

/-- The block of the argument a local copy reads, and the block it fills. -/
abbrev argB (p j : Fin 3) (d : Dev nD) : sProp 𝕄 := held xM d fullShare (cpRow p j d) (cpLen j) (cs p) (wd p) (X d)
abbrev locB (p j : Fin 3) (d : Dev nD) : sProp 𝕄 := held vM d fullShare (cpRow p j d) (cpLen j) (cs p) (wd p) (X d)

/-- What device `d` gets back when a send of its own has left: the share of the source it lent. -/
def sndPay (p : Fin 3) (s : Fin 12) (d : Dev nD) : sProp 𝕄 :=
  match s with
  | 0 => held (stM p) d fullShare 0 1024 0 (wd p) (St X p d)
  | 1 => held (stM p) d fullShare 1024 1024 0 (wd p) (St X p d)
  | 2 | 3 | 4 => iprop(emp)
  | 5 => outp p d fullShare.left (er p d false false false) (Rv X p)
  | 6 => outp p d fullShare.right.left (er p d false false false) (Rv X p)
  | 7 => outp p d fullShare.left (er p d false false true) (Rv X p)
  | 8 => outp p d fullShare.right.right (er p d false false false) (Rv X p)
  | 9 => outp p d fullShare.right (er p d false false true) (Rv X p)
  | 10 => outp p d fullShare (er p d false true false) (Rv X p)
  | 11 => outp p d fullShare (er p d false true true) (Rv X p)

/-- What device `d` gets when a neighbour's send has landed: the place with its contents, and from the second and third
    rounds of sums also the source, where the results will go. -/
def rcvPay (p : Fin 3) (s : Fin 12) (d : Dev nD) : sProp 𝕄 :=
  match s with
  | 0 => land X p d 0 1024
  | 1 => land X p d 1024 1024
  | 2 => iprop(land X p d 2048 512 ∗ outp p (nb p 1 d) fullShare (er p d false false true) (Av X p (nb p 1 d)))
  | 3 => iprop(land X p d 2560 512 ∗ outp p (nb p 1 d) fullShare (er p d false false false) (Av X p (nb p 1 d)))
  | 4 => iprop(land X p d 3072 512 ∗ outp p (nb p 2 d) fullShare (er p d false false false) (Bv X p (nb p 2 d)))
  | 5 => outp p d fullShare (er p d false false true) (Rv X p)
  | 6 => outp p d fullShare (er p d false true false) (Rv X p)
  | 7 => outp p d fullShare (er p d false true true) (Rv X p)
  | 8 => outp p d fullShare (er p d true false false) (Rv X p)
  | 9 => outp p d fullShare (er p d true false true) (Rv X p)
  | 10 => outp p d fullShare (er p d true true false) (Rv X p)
  | 11 => outp p d fullShare (er p d true true true) (Rv X p)

/-- What passes through a semaphore of device `d`. -/
def pay (d : Dev nD) (x : Cx) (j : Duty) : sProp 𝕄 :=
  match x with
  | .inl _ => barPay (F := F) d j
  | cp p k => iprop(locB X p k d ∗ argB X p k d)
  | snd p s => sndPay X p s d
  | rcv p s => rcvPay X p s d

instance give_storable (p k : Fin 3) (e : Dev nD) : BI.Storable (upEmb : UEmb _ 𝕄) (give (F := F) p k e) := by
  unfold give; split <;> infer_instance
instance sndPay_storable (p : Fin 3) (s : Fin 12) (d : Dev nD) : BI.Storable (upEmb : UEmb _ 𝕄) (sndPay X p s d) := by
  unfold sndPay; split <;> infer_instance
instance rcvPay_storable (p : Fin 3) (s : Fin 12) (d : Dev nD) : BI.Storable (upEmb : UEmb _ 𝕄) (rcvPay X p s d) := by
  unfold rcvPay; split <;> infer_instance
instance pay_storable (d : Dev nD) (x : Cx) (j : Duty) : BI.Storable (upEmb : UEmb _ 𝕄) (pay X d x j) := by
  unfold pay barPay; split <;> infer_instance

/-- The duties of a semaphore's one round. -/
def dut (x : Cx) : Finset Duty := match x with | .inl _ => Finset.univ | .inr _ => {0}

/-- The schedule: one round on every semaphore of the kernel; the barrier takes one unit from each neighbour, every other
    semaphore the credit of one transfer. -/
def Rd : Rounds.Schedule (GSem nD τ sig) Duty 𝕄 where
  duties g r := if r = 0 ∧ g.1.2 = .tc then (dec g.2).elim ∅ dut else ∅
  unitless _ := False
  amount g _ _ := (dec g.2).elim 1 amt
  payload g _ j := (dec g.2).elim iprop(emp) fun x => pay X g.1.1 x j
  amount_pos g _ _ _ := by
    cases h : dec g.2 with
    | none => exact Nat.one_pos
    | some x => exact amt_pos x

instance rd_storable (g : GSem nD τ sig) (r : ℕ) (j : Duty) : BI.Storable (upEmb : UEmb _ 𝕄) ((Rd X).payload g r j) := by
  show BI.Storable upEmb ((dec g.2).elim iprop(emp) fun x => pay X g.1.1 x j)
  cases dec g.2 with
  | none => exact (inferInstance : BI.Storable (upEmb : UEmb _ 𝕄) iprop(emp))
  | some x => exact pay_storable X _ x j

theorem rd_duties (d : Dev nD) (x : Cx) : (Rd X).duties (kcell d x) 0 = dut x := by
  show (if 0 = 0 ∧ (kcell d x).1.2 = .tc then (dec (ksem x)).elim ∅ dut else ∅) = _
  rw [if_pos ⟨rfl, rfl⟩, dec_ksem]; rfl
theorem rd_later (g : GSem nD τ sig) : ∀ r, 1 ≤ r → (Rd X).duties g r = ∅ := fun r hr => by
  show (if r = 0 ∧ g.1.2 = .tc then (dec g.2).elim ∅ dut else ∅) = _
  exact if_neg fun h => by omega
theorem rd_amount (d : Dev nD) (x : Cx) (j : Duty) : (Rd X).amount (kcell d x) 0 j = amt x := by
  show (dec (ksem x)).elim 1 amt = _
  rw [dec_ksem]; rfl
theorem rd_payload (d : Dev nD) (x : Cx) (j : Duty) : (Rd X).payload (kcell d x) 0 j = pay X d x j := by
  show (dec (ksem x)).elim iprop(emp) (fun x => pay X d x j) = _
  rw [dec_ksem]; rfl

/-- All the units of a semaphore's round. -/
def full (x : Cx) : ℕ := match x with | .inl _ => 3 | .inr y => amt (.inr y)

theorem rd_expect (d : Dev nD) (x : Cx) : (Rd X).expect (kcell d x) 0 = full x := by
  unfold Schedule.expect Schedule.amountOf
  rw [rd_duties, Finset.sum_congr rfl fun j _ => rd_amount X d x j]
  rcases x with _ | y
  · rfl
  · show ∑ j ∈ ({0} : Finset Duty), _ = _
    rw [Finset.sum_singleton]; rfl

/-- All that passes through a semaphore in its round. -/
def gain (d : Dev nD) (x : Cx) : sProp 𝕄 :=
  match x with
  | .inl _ => iprop(barPay (F := F) d 0 ∗ barPay d 1 ∗ barPay d 2)
  | .inr y => pay X d (.inr y) 0

theorem rd_rest (d : Dev nD) (x : Cx) :
    bigSep ((Rd X).duties (kcell d x) 0 \ ∅) (fun j => (Rd X).payload (kcell d x) 0 j) = gain X d x := by
  rw [Finset.sdiff_empty, rd_duties, bigSep_congr fun j _ => rd_payload X d x j]
  rcases x with _ | y
  · show bigSep Finset.univ _ = _
    rw [bigSep_univ_eq_bigSepL [0, 1, 2] (by decide) (by decide)]; rfl
  · show bigSep {0} _ = _
    rw [bigSep_singleton]; rfl

end Pay

/-! ## The order of the run, and what a device owes -/

/-- The remote sends in the order of the program: part and slot. -/
def ordr : List (Fin 3 × Fin 12) :=
  [(1, 0), (0, 0), (2, 0), (1, 1), (0, 1), (2, 1), (2, 2), (2, 3), (0, 2), (0, 3), (1, 2), (1, 3), (2, 4), (0, 4), (1, 4),
    (2, 5), (2, 6), (2, 8), (0, 5), (0, 6), (0, 8), (1, 5), (1, 6), (1, 8), (2, 7), (2, 9), (0, 7), (0, 9), (1, 7), (1, 9),
    (2, 10), (0, 10), (1, 10), (2, 11), (0, 11), (1, 11)]

/-- The waits in the order of the program. -/
def waitl : List Cx :=
  [bar, cp 1 0, cp 0 0, cp 2 0, cp 1 1, cp 0 1, cp 2 1, snd 2 0, rcv 2 0, cp 2 2, snd 0 0, rcv 0 0, cp 0 2, snd 1 0, rcv 1 0, cp 1 2,
    snd 2 1, rcv 2 1, snd 2 2, rcv 2 2, snd 0 1, rcv 0 1, snd 0 2, rcv 0 2, snd 1 1, rcv 1 1, snd 1 2, rcv 1 2,
    snd 2 3, rcv 2 3, snd 2 4, rcv 2 4, snd 0 3, rcv 0 3, snd 0 4, rcv 0 4, snd 1 3, rcv 1 3, snd 1 4, rcv 1 4,
    snd 2 5, rcv 2 5, snd 0 5, rcv 0 5, snd 1 5, rcv 1 5, snd 2 6, rcv 2 6, snd 0 6, rcv 0 6, snd 1 6, rcv 1 6,
    snd 2 7, rcv 2 7, snd 0 7, rcv 0 7, snd 1 7, rcv 1 7,
    snd 2 8, rcv 2 8, snd 2 9, rcv 2 9, snd 2 10, rcv 2 10, snd 2 11, rcv 2 11,
    snd 0 8, rcv 0 8, snd 0 9, rcv 0 9, snd 0 10, rcv 0 10, snd 0 11, rcv 0 11,
    snd 1 8, rcv 1 8, snd 1 9, rcv 1 9, snd 1 10, rcv 1 10, snd 1 11, rcv 1 11]

theorem waitl_length : waitl.length = 82 := rfl
theorem waitl_nodup : waitl.Nodup := by decide +kernel
theorem waitl_all (x : Cx) : x ∈ waitl := by revert x; decide +kernel

/-- The dimension, in a part's order, along which a slot is sent. -/
def dimOf (s : Fin 12) : Fin 3 := (![0, 0, 1, 1, 2, 2, 1, 1, 0, 0, 0, 0] : Fin 12 → Fin 3) s

/-- The `i`-th thing a device pays: the signals to the three neighbours, then the sends; the semaphore and the units. -/
def sendAt (i : ℕ) : Fin 3 × Fin 12 := ordr.getD (i - 3) (0, 0)
def sigAt (i : ℕ) : Fin 3 := Fin.ofNat 3 i
def tcell (i : ℕ) (c : Dev nD) : GSem nD τ sig :=
  if i < 3 then kcell (flip (sigAt i) c) bar
  else kcell (nb (sendAt i).1 (dimOf (sendAt i).2) c) (rcv (sendAt i).1 (sendAt i).2)
def tamt (i : ℕ) : ℕ := if i < 3 then 1 else amt (rcv (sendAt i).1 (sendAt i).2)

/-- What a device still owes after paying `i` things. -/
def Ow (i : ℕ) (c : Dev nD) : CellTallies nD τ sig Unit := ∑ k ∈ Finset.Ico i 39, tallyAt (tcell k c) () (tamt k)

theorem ico_insert {a b : ℕ} (h : a < b) : Finset.Ico a b = insert a (Finset.Ico (a + 1) b) := by
  ext k; rw [Finset.mem_insert, Finset.mem_Ico, Finset.mem_Ico]; omega
theorem ico_notMem (a b : ℕ) : a ∉ Finset.Ico (a + 1) b := fun h => by rw [Finset.mem_Ico] at h; omega

theorem Ow_step (i : ℕ) (h : i < 39) (c : Dev nD) : Ow i c = Ow (i + 1) c + tallyAt (tcell i c) () (tamt i) := by
  unfold Ow; rw [ico_insert h, Finset.sum_insert (ico_notMem i 39), add_comm]
theorem Ow_done (c : Dev nD) : Ow 39 c = 0 := by unfold Ow; rw [Finset.Ico_self, Finset.sum_empty]

theorem Ow_pos {i : ℕ} {c : Dev nD} {g : GSem nD τ sig} {u : Unit} (h : 0 < Ow i c g u) : ∃ k, i ≤ k ∧ k < 39 ∧ g = tcell k c := by
  unfold Ow at h
  rw [Finset.sum_apply, Finsupp.finsetSum_apply] at h
  obtain ⟨k, hk, hne⟩ := Finset.exists_ne_zero_of_sum_ne_zero (Nat.pos_iff_ne_zero.mp h)
  rw [Finset.mem_Ico] at hk
  refine ⟨k, hk.1, hk.2, ?_⟩
  by_contra hg
  exact hne (by rw [tallyAt_apply, if_neg fun h' => hg h'.1])

/-! ## The levels -/

/-- The level of a semaphore: arrivals by the order of the sends, above the barrier, above everything else. -/
def lvx (x : Cx) : ℕ := match x with | .inl _ => 1 | rcv p s => ordr.idxOf (p, s) + 2 | _ => 0
def lv (g : GSem nD τ sig) (_ : Unit) : ℕ := (dec g.2).elim 0 lvx
def Lx (g : GSem nD τ sig) : Finset Unit := if g.1.2 = .tc then {()} else ∅

theorem Lx_of_ne (g : GSem nD τ sig) (h : g.1.2 ≠ .tc) : Lx g = ∅ := if_neg h
theorem Lx_tc (c : Dev nD) (sm : SemLoc sig) : Lx ((c : Thread nD τ), sm) = {()} := if_pos rfl
theorem lv_kcell (d : Dev nD) (x : Cx) (u : Unit) : lv (kcell d x) u = lvx x := by
  show (dec (ksem x)).elim 0 lvx = _
  rw [dec_ksem]; rfl

theorem idx_sendAt : ∀ i : Fin 39, 3 ≤ i.val → ordr.idxOf (sendAt i.val) = i.val - 3 := by decide +kernel

/-- The level of what is paid grows with the order of the program. -/
theorem lv_tcell (i : ℕ) (h : i < 39) (c : Dev nD) (u : Unit) : lv (tcell i c) u = if i < 3 then 1 else i - 1 := by
  unfold tcell
  by_cases h3 : i < 3
  · rw [if_pos h3, if_pos h3, lv_kcell]; rfl
  · rw [if_neg h3, if_neg h3, lv_kcell]
    show ordr.idxOf (sendAt i) + 2 = _
    rw [idx_sendAt ⟨i, h⟩ (by show 3 ≤ i; omega)]
    show i - 3 + 2 = i - 1
    omega

theorem tcell_tc (i : ℕ) (c : Dev nD) : (tcell i c).1.2 = .tc := by unfold tcell; split <;> rfl

/-- A device may wait on a semaphore whose level is below that of everything it still owes. -/
theorem mayWait (c : Dev nD) (sm : SemLoc sig) (l i : ℕ) (hs : lv ((c : Thread nD τ), sm) () ≤ l) (hl : l = 0 ∨ 3 ≤ i ∧ l + 2 ≤ i) :
    (levAts Lx lv : sProp 𝕄) ⊢ MayWait (c : Thread nD τ) sm () (Ow i c) :=
  MayOwe.of_cut (L := Lx) (lev := lv) l (fun p hp => by rw [Finset.mem_singleton.mp hp, Lx_tc]; exact Finset.mem_singleton_self _)
    (fun g u hg => by
      obtain ⟨k, _, _, rfl⟩ := Ow_pos hg
      unfold Lx; rw [if_pos (tcell_tc k c)]; exact Finset.mem_singleton_self _)
    (fun p hp => by rw [Finset.mem_singleton.mp hp]; exact hs)
    (fun g u hg => by
      obtain ⟨k, hk, hk', rfl⟩ := Ow_pos hg
      rw [lv_tcell k hk' c u]
      split <;> omega)

end Cert.AllReduce
-- ==== Proof.Steps.lean ====
/-
The steps of the run: what a device holds between two steps (`run`), and one rule for each kind of step — a signal, a
local copy, a send whose source comes back, a send whose source goes with the arrival, a wait.
-/
module

public import proofs.«01_k».proof.Proof.Plan

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

/-- Where the pipeline library's ghost state and the rounds' live in the ghost state. -/
abbrev EP : Emb (UR sig nD τ) (MT nD τ sig Unit (Elt F) ℕ GS ℕ) := embL
abbrev ER : Emb (URounds (GSem nD τ sig) Duty) (MT nD τ sig Unit (Elt F) ℕ GS ℕ) := embR

section Run

variable (X : Dev nD → ℕ → ℕ → Elt F .f32)

/-- What every device knows: the invariant of every semaphore, that its round is open, the levels. -/
def recs (K : Dev nD × Cx → ℕ) : sProp 𝕄 :=
  iprop((bigSep Finset.univ fun y : Dev nD × Cx => cellInv ER (Rd X) (K y) (kcell y.1 y.2))
    ∗ (bigSep Finset.univ fun y : Dev nD × Cx => reached ER (kcell y.1 y.2) 0) ∗ levAts Lx lv)

instance recs_persistent (K : Dev nD × Cx → ℕ) : BI.Persistent (recs X K) := by unfold recs; infer_instance

theorem recs_inv (K : Dev nD × Cx → ℕ) (d : Dev nD) (x : Cx) : recs X K ⊢ cellInv ER (Rd X) (K (d, x)) (kcell d x) := by
  have h : (bigSep Finset.univ fun y : Dev nD × Cx => (cellInv ER (Rd X) (K y) (kcell y.1 y.2) : sProp 𝕄))
      ⊢ cellInv ER (Rd X) (K (d, x)) (kcell d x) := bigSep_elim (Finset.mem_univ (d, x))
  unfold recs
  iintro ⟨H, -, -⟩
  iapply h
  iexact H
theorem recs_reached (K : Dev nD × Cx → ℕ) (d : Dev nD) (x : Cx) : recs X K ⊢ reached ER (kcell d x) 0 := by
  have h : (bigSep Finset.univ fun y : Dev nD × Cx => (reached ER (kcell y.1 y.2) 0 : sProp 𝕄))
      ⊢ reached ER (kcell d x) 0 := bigSep_elim (Finset.mem_univ (d, x))
  unfold recs
  iintro ⟨-, H, -⟩
  iapply h
  iexact H
theorem recs_lev (K : Dev nD × Cx → ℕ) : recs X K ⊢ (levAts Lx lv : sProp 𝕄) := by
  unfold recs
  iintro ⟨-, -, H⟩
  iexact H

theorem duty_mem (d : Dev nD) (y : Own) : (0 : Duty) ∈ (Rd X).duties (kcell d (.inr y)) 0 := by
  rw [rd_duties]; exact Finset.mem_singleton_self _

/-- The credit of a whole round of a semaphore of the device. -/
def crd (c : Dev nD) (x : Cx) : sProp 𝕄 := cred (tallyAt (kcell c x) () (full x))

/-- The credits a device has from the launch on, for what the others send; and those it gets by its own transfers. -/
def early (c : Dev nD) (x : Cx) : sProp 𝕄 := match x with | .inl _ => crd c bar | rcv p s => crd c (rcv p s) | _ => iprop(emp)
def late (c : Dev nD) (x : Cx) : sProp 𝕄 := match x with | cp p k => crd c (cp p k) | snd p s => crd c (snd p s) | _ => iprop(emp)

theorem early_late (c : Dev nD) (x : Cx) : iprop(early c x ∗ late c x) ⊢ (crd c x : sProp 𝕄) := by
  rcases x with u | ⟨p, k⟩ | ⟨p, s⟩ | ⟨p, s⟩
  · exact (sep_emp (PROP := sProp 𝕄)).1
  · exact (emp_sep (PROP := sProp 𝕄)).1
  · exact (emp_sep (PROP := sProp 𝕄)).1
  · exact (sep_emp (PROP := sProp 𝕄)).1

/-- What a wait puts away until the end, and what it brings. -/
def back (c : Dev nD) (x : Cx) : sProp 𝕄 := match x with | cp p k => argB X p k c | _ => iprop(emp)
def got (c : Dev nD) (x : Cx) : sProp 𝕄 := match x with | cp p k => locB X p k c | x => gain X c x

theorem gain_split (c : Dev nD) (x : Cx) : gain X c x ⊢ iprop(back X c x ∗ got X c x) := by
  rcases x with u | ⟨p, k⟩ | ⟨p, s⟩ | ⟨p, s⟩
  · exact (emp_sep (PROP := sProp 𝕄)).2
  · exact (sep_comm (PROP := sProp 𝕄)).1
  · exact (emp_sep (PROP := sProp 𝕄)).2
  · exact (emp_sep (PROP := sProp 𝕄)).2

/-- The `j`-th wait. -/
def wl (j : ℕ) : Cx := waitl.getD j bar

/-- The duties a device pays with its `i`-th payment. -/
def payTok (c : Dev nD) (i : ℕ) : sProp 𝕄 :=
  if i < 3 then dutyTok ER (tcell i c) 0 (sigAt i)
  else iprop(dutyTok ER (kcell c (snd (sendAt i).1 (sendAt i).2)) 0 0 ∗ dutyTok ER (tcell i c) 0 0)
/-- What a device has for its `j`-th wait from the launch on, and what that wait leaves. -/
def waitTok (c : Dev nD) (j : ℕ) : sProp 𝕄 := iprop(atPos ER (kcell c (wl j)) 0 ∅ 0 ∗ early c (wl j))
def shut (c : Dev nD) (x : Cx) : sProp 𝕄 := iprop(semVal (kcell c x) 0 ∗ back X c x)

/-- What a device holds, besides buffers, after `i` payments and `j` waits. -/
def run (K : Dev nD × Cx → ℕ) (c : Dev nD) (i j : ℕ) : sProp 𝕄 :=
  iprop(recs X K ∗ (∃ W, owes (c : Thread nD τ) (Ow i c) W) ∗ (bigSep (Finset.Ico i 39) fun k => payTok c k)
    ∗ (bigSep (Finset.Ico j 82) fun k => waitTok c k) ∗ (bigSep (Finset.range j) fun k => shut X c (wl k)))

theorem bigSep_ico {a b : ℕ} (h : a < b) (Φ : ℕ → sProp 𝕄) :
    bigSep (Finset.Ico a b) Φ = iprop(Φ a ∗ bigSep (Finset.Ico (a + 1) b) Φ) := by
  rw [ico_insert h, bigSep_insert (ico_notMem a b)]; rfl
theorem bigSep_range (b : ℕ) (Φ : ℕ → sProp 𝕄) :
    bigSep (Finset.range (b + 1)) Φ = iprop(Φ b ∗ bigSep (Finset.range b) Φ) := by
  rw [Finset.range_add_one, bigSep_insert Finset.notMem_range_self]; rfl

variable (K : Dev nD × Cx → ℕ) (c : Dev nD) {A : Type} {i j : ℕ}

/-- A wait for the whole round of the next semaphore in the order of the program. -/
theorem wait_core {Q : A → sProp 𝕄} (x : Cx) (hj : j < 82) (hx : wl j = x) (hl : lvx x = 0 ∨ 3 ≤ i ∧ lvx x + 2 ≤ i)
    {w : TpuEff nD τ sig (Elt F) Λ₀ .tc PUnit} {sm : SemLoc sig} (hs : sm = ksem x) {k' : ℕ} (hk : k' = full x)
    (hw : ∀ R : PUnit → sProp 𝕄, wpE (defs₀ (F := F)) Variants.none (c : Thread nD τ) none Set.univ w R = waitSpec (c : Thread nD τ) Set.univ sm k' R)
    {k : PUnit → Prog (TpuEff nD τ sig (Elt F) Λ₀ .tc) A} :
    run X K c i j ⊢ iprop(late c x -∗ ((run X K c i (j + 1) ∗ got X c x) -∗ runs c (k ⟨⟩) Q) -∗ runs c (.op w k) Q) := by
  subst hx hs hk
  unfold run
  rw [bigSep_ico hj, bigSep_range]
  iintro ⟨#Hr, ⟨%W, HO⟩, Hp, ⟨Hw, Hws⟩, Hs⟩ Hl Hk
  unfold waitTok
  icases Hw with ⟨Hat, He⟩
  ihave Hc := (early_late c (wl j)) $$ [He Hl]
  · isplitl [He] <;> iassumption
  unfold crd
  iapply (Rounds.wp_wait_rest_token Variants.none ER (Rd X) (c : Thread nD τ) none (κ := K (c, wl j))
      hw (Set.mem_univ _) () (O := Ow i c) (W := W) (R := 0) (m := 0) (T := ∅)
      (by rw [Nat.zero_add]; exact (rd_expect X c (wl j)).symm)) $$ [Hc HO Hat]
  · isplitr; · iapply (recs_inv X K c (wl j)); iexact Hr
    isplitl [Hc]; · iexact Hc
    isplitl [HO]; · iexact HO
    isplitr
    · iapply (mayWait c (ksem (wl j)) (lvx (wl j)) i (le_of_eq (lv_kcell c (wl j) ())) hl)
      iapply (recs_lev X K); iexact Hr
    iexact Hat
  iintro ⟨HO, Hat, -, Hg⟩
  imod (Rounds.cell_close ER (Rd X) (Set.mem_univ (K (c, wl j))) (fun h => h) (R := 0 + 1) (rd_later X (kcell c (wl j)))) $$ [Hat] with Hz
  · isplitr; · iapply (recs_inv X K c (wl j)); iexact Hr
    iexact Hat
  ihave Hg := ((Entails.of_eq (rd_rest X c (wl j))).trans (gain_split X c (wl j))) $$ Hg
  icases Hg with ⟨Hb, Hg⟩
  iapply Hk
  isplitr [Hg]
  · isplitr; · iexact Hr
    isplitl [HO]; · iexists _; iexact HO
    isplitl [Hp]; · iexact Hp
    isplitl [Hws]; · iexact Hws
    isplitl [Hz Hb]
    · unfold shut
      isplitl [Hz] <;> iassumption
    iexact Hs
  iexact Hg

/-- The wait on the barrier: all three neighbours have come. -/
theorem wait_bar {Q : A → sProp 𝕄} (hj : wl j = bar) (hj' : j < 82) (hi : 3 ≤ i) {sem : Sem sig} (hs : sem = barS) {n : ℕ} (hn : n = 3)
    {k : PUnit → Prog (TpuEff nD τ sig (Elt F) Λ₀ .tc) A} :
    run X K c i j ⊢ iprop(((run X K c i (j + 1) ∗ gain X c bar) -∗ runs c (k ⟨⟩) Q) -∗ runs c (.op (.semWait sem n) k) Q) := by
  subst hs
  iintro Hr Hk
  iapply (wait_core X K c bar hj' hj (.inr ⟨hi, hi⟩) (sm := .reg barS) rfl (hn.trans rfl) (wpE_semWait_eq Variants.none (c : Thread nD τ) none Set.univ)) $$ Hr
  · iapply (Entails.of_eq (show iprop(emp) = late c bar from rfl)); iempintro
  iexact Hk

/-- The wait on a semaphore of the device's own transfers. -/
theorem wait_late {Q : A → sProp 𝕄} (x : Cx) {sem : DmaSem sig} (hx : wl j = x := by exact rfl) (hj : j < 82 := by decide)
    (hl : lvx x = 0 := by exact rfl) (hs : SemLoc.dma sem = ksem x := by exact rfl)
    {sp sp' : Space} {s s' : Shape} {e e' : EltTy} {src : Memref sig .tc sp s e} {dst : Memref sig .tc sp' s' e'} {h₁ h₂}
    (hk : dst.view.dmaCredit = full x := by exact rfl)
    {k : PUnit → Prog (TpuEff nD τ sig (Elt F) Λ₀ .tc) A} :
    run X K c i j ⊢ iprop(late c x -∗ ((run X K c i (j + 1) ∗ got X c x) -∗ runs c (k ⟨⟩) Q) -∗ runs c (.op (.waitDma2 sem src dst h₁ h₂) k) Q) :=
  wait_core X K c x hj hx (.inl hl) hs hk (wpE_waitDma2_eq Variants.none (c : Thread nD τ) none Set.univ)

/-- The wait for an arrival. -/
theorem wait_rcv {Q : A → sProp 𝕄} (p : Fin 3) (s : Fin 12) {sem : DmaSem sig} (hx : wl j = rcv p s := by exact rfl) (hj : j < 82 := by decide)
    (hl : 3 ≤ i ∧ lvx (rcv p s) + 2 ≤ i := by decide) (hs : SemLoc.dma sem = ksem (rcv p s) := by exact rfl)
    {sp sp' : Space} {s₁ s₂ : Shape} {e e' : EltTy} {src : Memref sig .tc sp s₁ e} {dst : Memref sig .tc sp' s₂ e'} {h₁ h₂}
    (hk : dst.view.dmaCredit = full (rcv p s) := by exact rfl)
    {k : PUnit → Prog (TpuEff nD τ sig (Elt F) Λ₀ .tc) A} :
    run X K c i j ⊢ iprop(((run X K c i (j + 1) ∗ rcvPay X p s c) -∗ runs c (k ⟨⟩) Q) -∗ runs c (.op (.waitDma2 sem src dst h₁ h₂) k) Q) := by
  iintro Hr Hk
  iapply (wait_core X K c (rcv p s) hj hx (.inr hl) hs hk (wpE_waitDma2_eq Variants.none (c : Thread nD τ) none Set.univ)) $$ Hr
  · iapply (Entails.of_eq (show iprop(emp) = late c (rcv p s) from rfl)); iempintro
  iexact Hk

/-- A signal to the next neighbour's barrier: it hands over the places that neighbour will write. -/
theorem signal_step {Q : A → sProp 𝕄} (n : Fin 3) (hn : i = n.val) {e : Dev nD} (he : e = flip n c) {sem : Sem sig} (hs : sem = barS) {u : ℕ} (hu : 1 = u)
    {k : PUnit → Prog (TpuEff nD τ sig (Elt F) Λ₀ .tc) A} :
    run X K c i j ⊢ iprop(barPay (flip n c) n -∗ (run X K c (i + 1) j -∗ runs c (k ⟨⟩) Q)
        -∗ runs c (.op (.semSignal (Dev.tc e : Thread nD τ) sem u) k) Q) := by
  subst he hs
  have hi : i < 3 := hn ▸ n.isLt
  have hsig : sigAt i = n := by subst hn; exact Fin.ext (Nat.mod_eq_of_lt n.isLt)
  have ht : tcell i c = kcell (flip n c) bar := by unfold tcell; rw [if_pos hi, hsig]
  unfold run
  rw [bigSep_ico (show i < 39 by omega)]
  unfold payTok
  rw [if_pos hi, ht, hsig]
  iintro ⟨#Hr, ⟨%W, HO⟩, ⟨Ht, Hp⟩, Hw, Hs⟩ Hb Hk
  iapply (Rounds.wp_signal Variants.none ER (Rd X) (c : Thread nD τ) none (dst := (flip n c : Thread nD τ)) (sem := barS) (κ := K (flip n c, bar)) (r := 0)
      (d := n) (by exact (rd_duties X (flip n c) bar).symm ▸ Finset.mem_univ _) ((rd_amount X (flip n c) bar n).trans hu) () (Ow (i + 1) c)
      (O₀ := Ow i c) (by rw [Ow_step i (by omega) c, ht, ← hu]; unfold tamt; rw [if_pos hi]; rfl)) $$ [HO Ht Hb]
  · isplitr; · iapply (recs_inv X K (flip n c) bar); iexact Hr
    isplitl [HO]; · iexact HO
    isplitl [Ht]; · iexact Ht
    isplitl [Hb]
    · iapply (show barPay (flip n c) n ⊢ (Rd X).payload ((flip n c : Thread nD τ), .reg barS) 0 n from Entails.of_eq (rd_payload X (flip n c) bar n).symm)
      iexact Hb
    iapply (recs_reached X K (flip n c) bar); iexact Hr
  iintro HO
  iapply Hk
  isplitr; · iexact Hr
  isplitl [HO]; · iexists _; iexact HO
  isplitl [Hp]; · iexact Hp
  isplitl [Hw] <;> iassumption

/-- The duty of a local copy and the two blocks it works on. -/
def kit (p k : Fin 3) (c : Dev nD) : sProp 𝕄 :=
  iprop(dutyTok ER (kcell c (cp p k)) 0 0 ∗ free vM c (cpRow p k c) (cpLen k) (cs p) (wd p) ∗ argB X p k c)

/-- A local copy, of any memrefs: from the source's elements at contents `fs` and the destination's, with the duty's
    token, to the credit to wait with. -/
theorem copy_raw {Q : A → sProp 𝕄} (x : Own) {sp sp' : Space} {s : Shape} {e : EltTy} {src : Memref sig .tc sp s e} {dst : Memref sig .tc sp' s e}
    {sm : SemLoc sig} (hs : sm = osem x) (hN : dst.view.amount sm = amt (.inr x)) {h₁ h₂ h₃} {q : PosShare TreeShare}
    (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ pay X c (.inr x) 0)
    {k : PUnit → Prog (TpuEff nD τ sig (Elt F) Λ₀ .tc) A} :
    iprop(recs X K ∗ (src.view.loc (c : Thread nD τ) ↦[src.view.set]{q} fs) ∗ (dst.view.loc (c : Thread nD τ) ↦[dst.view.set]{fullShare} fd)
        ∗ dutyTok ER (kcell c (.inr x)) 0 0)
      ⊢ iprop((crd c (.inr x) -∗ runs c (k ⟨⟩) Q) -∗ runs c (.op (.enqueueDma src (.here dst) sm h₁ h₂ h₃) k) Q) := by
  subst hs
  iintro ⟨#Hr, Hx, Hv, Ht⟩
  iapply (Rounds.wp_copy_pointsTo Variants.none ER (Rd X) (c : Thread nD τ) none (κ := K (c, .inr x)) (r := 0) (d := 0)
      (duty_mem X c x) () (amt (.inr x)) hN (rd_amount X c (.inr x) 0) (hpay.trans (Entails.of_eq (rd_payload X c (.inr x) 0).symm)))
  isplitr; · iapply (recs_inv X K c (.inr x)); iexact Hr
  isplitl [Hx]; · iexact Hx
  isplitl [Hv]; · iexact Hv
  isplitl [Ht]; · iexact Ht
  iapply (recs_reached X K c (.inr x)); iexact Hr

/-- A send, of any memrefs: from the source's elements at contents `fs` and the destination's on the neighbour, with both
    duties' tokens and the debt, to the credit to wait with and the debt paid. -/
theorem send_raw {Q : A → sProp 𝕄} (x y : Own) {d e : Dev nD} (hd : e = d) {s : Shape} {et : EltTy} {src dst : Memref sig .tc .vmem s et}
    {sS sm : SemLoc sig} (hS : sS = osem x) (hm : sm = osem y) (hN : dst.view.amount sm = amt (.inr y)) (hxy : amt (.inr x) = amt (.inr y))
    {hsc h₁ h₂ h₃} {q : PosShare TreeShare} (fs : Buf (Elt F) (src.view.loc (c : Thread nD τ))) (fd : Buf (Elt F) (dst.view.loc (d : Thread nD τ)))
    {O₀ : CellTallies nD τ sig Unit} (O : CellTallies nD τ sig Unit) (hO : O₀ = O + tallyAt (kcell d (.inr y)) () (amt (.inr y))) (W : Waits sig Unit)
    (hpay : ((src.view.loc (c : Thread nD τ) ↦[src.view.set]{q} fs) ⊢ pay X c (.inr x) 0) ∧
          ((dst.view.loc (d : Thread nD τ) ↦[dst.view.set]{fullShare} (dst.view.write (Elt F) fd (src.view.read (Elt F) fs) Finset.univ))
            ⊢ pay X d (.inr y) 0) ∨
        (emp ⊢ pay X c (.inr x) 0) ∧
          (iprop((dst.view.loc (d : Thread nD τ) ↦[dst.view.set]{fullShare} (dst.view.write (Elt F) fd (src.view.read (Elt F) fs) Finset.univ))
            ∗ (src.view.loc (c : Thread nD τ) ↦[src.view.set]{q} fs)) ⊢ pay X d (.inr y) 0))
    {k : PUnit → Prog (TpuEff nD τ sig (Elt F) Λ₀ .tc) A} :
    iprop(recs X K ∗ (src.view.loc (c : Thread nD τ) ↦[src.view.set]{q} fs) ∗ (dst.view.loc (d : Thread nD τ) ↦[dst.view.set]{fullShare} fd)
        ∗ owes (c : Thread nD τ) O₀ W ∗ dutyTok ER (kcell c (.inr x)) 0 0 ∗ dutyTok ER (kcell d (.inr y)) 0 0)
      ⊢ iprop(((crd c (.inr x) ∗ owes (c : Thread nD τ) O W) -∗ runs c (k ⟨⟩) Q)
          -∗ runs c (.op (.enqueueDma src (.remote (Dev.tc e : Thread nD τ) dst sS hsc) sm h₁ h₂ h₃) k) Q) := by
  subst hd hS hm
  have hc : (crd c (.inr x) : sProp 𝕄) = cred (tallyAt (kcell c (.inr x)) () (amt (.inr y))) := by unfold crd; rw [← hxy]; rfl
  rw [hc]
  iintro ⟨#Hr, Hx, Hv, HO, Ht₁, Ht₂⟩
  rcases hpay with ⟨hp₁, hp₂⟩ | ⟨hp₁, hp₂⟩
  · iapply (Rounds.wp_send_pointsTo Variants.none ER (Rd X) (c : Thread nD τ) none (κ₁ := K (c, .inr x)) (κ₂ := K (e, .inr y)) (r₁ := 0) (r₂ := 0)
        (d₁ := 0) (d₂ := 0) (duty_mem X c x) (duty_mem X e y) () () (amt (.inr y)) hN ((rd_amount X c (.inr x) 0).trans hxy) (rd_amount X e (.inr y) 0)
        O hO (W := W) (hp₁.trans (Entails.of_eq (rd_payload X c (.inr x) 0).symm)) (hp₂.trans (Entails.of_eq (rd_payload X e (.inr y) 0).symm)))
    isplitr; · iapply (recs_inv X K c (.inr x)); iexact Hr
    isplitr; · iapply (recs_inv X K e (.inr y)); iexact Hr
    isplitl [Hx]; · iexact Hx
    isplitl [Hv]; · iexact Hv
    isplitl [HO]; · iexact HO
    isplitl [Ht₁]; · iexact Ht₁
    isplitr; · iapply (recs_reached X K c (.inr x)); iexact Hr
    isplitl [Ht₂]; · iexact Ht₂
    iapply (recs_reached X K e (.inr y)); iexact Hr
  · iapply (Rounds.wp_send_landing_pointsTo Variants.none ER (Rd X) (c : Thread nD τ) none (κ₁ := K (c, .inr x)) (κ₂ := K (e, .inr y)) (r₁ := 0) (r₂ := 0)
        (d₁ := 0) (d₂ := 0) (duty_mem X c x) (duty_mem X e y) () () (amt (.inr y)) hN ((rd_amount X c (.inr x) 0).trans hxy) (rd_amount X e (.inr y) 0)
        O hO (W := W) (hp₁.trans (Entails.of_eq (rd_payload X c (.inr x) 0).symm)) (hp₂.trans (Entails.of_eq (rd_payload X e (.inr y) 0).symm)))
    isplitr; · iapply (recs_inv X K c (.inr x)); iexact Hr
    isplitr; · iapply (recs_inv X K e (.inr y)); iexact Hr
    isplitl [Hx]; · iexact Hx
    isplitl [Hv]; · iexact Hv
    isplitl [HO]; · iexact HO
    isplitl [Ht₁]; · iexact Ht₁
    isplitr; · iapply (recs_reached X K c (.inr x)); iexact Hr
    isplitl [Ht₂]; · iexact Ht₂
    iapply (recs_reached X K e (.inr y)); iexact Hr

theorem cp_tile : ∀ p n : Fin 3, RefSig.tileCredit (Sh ![cpLen n, wd p]) .f32 = amt (cp p n) := by decide +kernel

/-- The credit of a local copy. -/
theorem cp_credit (p n : Fin 3) {off size : Fin 2 → ℕ} {inb : ∀ a, off a + size a ≤ (![4096, 1024] : Fin 2 → ℕ) a}
    (hh : size 0 = cpLen n) (hw : size 1 = wd p) (hr) :
    (vM.slice (Rect.unit (s := Sh ![4096, 1024]) off size inb) hr).view.dmaCredit = amt (cp p n) := by
  have e : size = ![cpLen n, wd p] := funext fun a => by
    fin_cases a
    · exact hh
    · exact hw
  subst e
  exact (rfl : _ = RefSig.tileCredit (Sh ![cpLen n, wd p]) .f32).trans (cp_tile p n)

/-- A local copy of a block of the argument. -/
theorem copy_step {Q : A → sProp 𝕄} (p n : Fin 3) {off size : Fin 2 → ℕ} {inb : ∀ a, off a + size a ≤ (![4096, 1024] : Fin 2 → ℕ) a}
    (ho : off = ![cpRow p n c, cs p]) (hh : size 0 = cpLen n := by exact rfl) (hw : size 1 = wd p := by exact rfl) {hr₁ hr₂}
    {sm : SemLoc sig} (hs : sm = ksem (cp p n) := by exact rfl)
    {h₁ h₂ h₃}
    {k : PUnit → Prog (TpuEff nD τ sig (Elt F) Λ₀ .tc) A} :
    run X K c i j ⊢ iprop(kit X p n c -∗ ((run X K c i j ∗ late c (cp p n)) -∗ runs c (k ⟨⟩) Q)
        -∗ runs c (.op (.enqueueDma (xM.slice (Rect.unit (s := Sh ![4096, 1024]) off size inb) hr₂)
            (.here (vM.slice (Rect.unit (s := Sh ![4096, 1024]) off size inb) hr₁)) sm h₁ h₂ h₃) k) Q) := by
  have key (ψ) := copy_raw X K c (Q := Q) (.inl (p, n)) (h₁ := h₁) (h₂ := h₂) (h₃ := h₃) (k := k) hs (by subst hs; exact cp_credit p n hh hw _) (q := fullShare) (fill xM (X c)) (fill vM ψ)
    ((BIClass.sep_mono (Entails.of_eq (slice_write vM c fullShare ho hh hw hr₁ (fill vM ψ) _ (X c) fun x => read_slice xM ho hr₂ (X c) x))
          (Entails.of_eq (slice_fill xM c fullShare ho hh hw hr₂ (X c)))))
  unfold kit free
  iintro Hrun ⟨Ht, ⟨%ψ, Hv⟩, Hx⟩ Hk
  unfold run
  icases Hrun with ⟨#Hr, HO, Hp, Hw, Hs⟩
  ihave Hx := (Entails.of_eq (slice_fill xM c fullShare ho hh hw hr₂ (X c)).symm) $$ Hx
  ihave Hv := (Entails.of_eq (slice_fill vM c fullShare ho hh hw hr₁ ψ).symm) $$ Hv
  iapply (key ψ) $$ [Hx Hv Ht]
  · isplitr; · iexact Hr
    isplitl [Hx]; · iexact Hx
    isplitl [Hv] <;> iassumption
  iintro Hc
  iapply Hk
  isplitr [Hc]
  · isplitr; · iexact Hr
    isplitl [HO]; · iexact HO
    isplitl [Hp]; · iexact Hp
    isplitl [Hw] <;> iassumption
  unfold late
  iexact Hc

section Send

variable (p : Fin 3) (s : Fin 12) {sz₁ sz₂ off₁ off₂ size : Fin 2 → ℕ}
  {inb₁ : ∀ a, off₁ a + size a ≤ sz₁ a} {inb₂ : ∀ a, off₂ a + size a ≤ sz₂ a}
  (M₁ : Memref sig .tc .vmem (Sh sz₁) .bf16) (M₂ : Memref sig .tc .vmem (Sh sz₂) .bf16)

/-- What a block is to hold to be a copy of another. -/
def moved {B : Type} (r₁ c₁ r₂ c₂ : ℕ) (φ : ℕ → ℕ → B) (a b : ℕ) : B := φ (a - r₂ + r₁) (b - c₂ + c₁)

theorem moved_at {B : Type} (r₁ c₁ r₂ c₂ : ℕ) (φ : ℕ → ℕ → B) (a b : ℕ) : moved r₁ c₁ r₂ c₂ φ (r₂ + a) (c₂ + b) = φ (r₁ + a) (c₁ + b) := by
  unfold moved
  rw [show r₂ + a - r₂ + r₁ = r₁ + a by omega, show c₂ + b - c₂ + c₁ = c₁ + b by omega]

/-- The next send of the program, of a block that the device holds a share of to a place on the neighbour that it holds.
    The send semaphore's payload `P₁` is made from the source, or the arrival's from both. -/
theorem send_step {Q : A → sProp 𝕄} (hs : sendAt i = (p, s)) (hi : 3 ≤ i ∧ i < 39)
    {q : PosShare TreeShare} {r₁ c₁ r₂ c₂ h w : ℕ}
    (ho₁ : off₁ = ![r₁, c₁]) (ho₂ : off₂ = ![r₂, c₂]) (hh : size 0 = h) (hw : size 1 = w) {hr₁ hr₂} (φ : ℕ → ℕ → Elt F .bf16)
    {e : Dev nD} (he : e = nb p (dimOf s) c) {sS sm : SemLoc sig} (hsS : sS = ksem (snd p s)) (hsm : sm = ksem (rcv p s))
    (hN : (M₂.slice (Rect.unit (s := Sh sz₂) off₂ size inb₂) hr₂).view.amount sm = amt (rcv p s))
    (hpay : (iprop(held M₁ c q r₁ h c₁ w φ ⊢ sndPay X p s c) ∧
          iprop(held M₂ (nb p (dimOf s) c) fullShare r₂ h c₂ w (moved r₁ c₁ r₂ c₂ φ) ⊢ rcvPay X p s (nb p (dimOf s) c))) ∨
        (iprop(emp ⊢ sndPay X p s c) ∧
          iprop(held M₂ (nb p (dimOf s) c) fullShare r₂ h c₂ w (moved r₁ c₁ r₂ c₂ φ) ∗ held M₁ c q r₁ h c₁ w φ ⊢ rcvPay X p s (nb p (dimOf s) c))))
    {hsc h₁ h₂ h₃} {k : PUnit → Prog (TpuEff nD τ sig (Elt F) Λ₀ .tc) A} :
    run X K c i j ⊢ iprop(held M₁ c q r₁ h c₁ w φ -∗ free M₂ (nb p (dimOf s) c) r₂ h c₂ w
        -∗ ((run X K c (i + 1) j ∗ late c (snd p s)) -∗ runs c (k ⟨⟩) Q)
        -∗ runs c (.op (.enqueueDma (M₁.slice (Rect.unit (s := Sh sz₁) off₁ size inb₁) hr₁)
            (.remote (Dev.tc e : Thread nD τ) (M₂.slice (Rect.unit (s := Sh sz₂) off₂ size inb₂) hr₂) sS hsc) sm h₁ h₂ h₃) k) Q) := by
  subst he hsS hsm
  have ht : tcell i c = kcell (nb p (dimOf s) c) (rcv p s) := by unfold tcell; rw [if_neg (by omega), hs]
  have hO : Ow i c = Ow (i + 1) c + tallyAt (kcell (nb p (dimOf s) c) (rcv p s)) () (amt (rcv p s)) := by
    rw [Ow_step i hi.2 c, ht]; unfold tamt; rw [if_neg (by omega), hs]
  have hv : ∀ x : (Sh size).Idx, (M₁.slice (Rect.unit (s := Sh sz₁) off₁ size inb₁) hr₁).view.read (Elt F) (fill M₁ φ) x
      = moved r₁ c₁ r₂ c₂ φ (r₂ + (x 0).val) (c₂ + (x 1).val) := fun x => by rw [read_slice M₁ ho₁ hr₁ φ x, moved_at]
  have key (ψ) (W) := send_raw X K c (Q := Q) (.inr (.inl (p, s))) (.inr (.inr (p, s))) (d := nb p (dimOf s) c) rfl (h₁ := h₁) (h₂ := h₂) (h₃ := h₃) (hsc := hsc) (k := k)
    rfl rfl hN rfl (q := q) (fill M₁ φ) (fill M₂ ψ) (Ow (i + 1) c) hO W
    (hpay.imp
      (fun hp => ⟨(Entails.of_eq (slice_fill M₁ c q ho₁ hh hw hr₁ φ)).trans hp.1,
        (Entails.of_eq (slice_write M₂ (nb p (dimOf s) c) fullShare ho₂ hh hw hr₂ (fill M₂ ψ) _ _ hv)).trans hp.2⟩)
      (fun hp => ⟨hp.1, (BIClass.sep_mono (Entails.of_eq (slice_write M₂ (nb p (dimOf s) c) fullShare ho₂ hh hw hr₂ (fill M₂ ψ) _ _ hv))
            (Entails.of_eq (slice_fill M₁ c q ho₁ hh hw hr₁ φ))).trans hp.2⟩))
  unfold run free
  rw [bigSep_ico hi.2]
  unfold payTok
  rw [if_neg (show ¬ i < 3 by omega), ht, hs]
  iintro ⟨#Hr, ⟨%W, HO⟩, ⟨⟨Ht₁, Ht₂⟩, Hp⟩, Hw, Hs⟩ Hx ⟨%ψ, Hv⟩ Hk
  ihave Hx := (Entails.of_eq (slice_fill M₁ c q ho₁ hh hw hr₁ φ).symm) $$ Hx
  ihave Hv := (Entails.of_eq (slice_fill M₂ (nb p (dimOf s) c) fullShare ho₂ hh hw hr₂ ψ).symm) $$ Hv
  iapply (key ψ W) $$ [Hx Hv HO Ht₁ Ht₂]
  · isplitr; · iexact Hr
    isplitl [Hx]; · iexact Hx
    isplitl [Hv]; · iexact Hv
    isplitl [HO]; · iexact HO
    isplitl [Ht₁] <;> iassumption
  iintro ⟨Hc, HO⟩
  iapply Hk
  isplitr [Hc]
  · isplitr; · iexact Hr
    isplitl [HO]; · iexists _; iexact HO
    isplitl [Hp]; · iexact Hp
    isplitl [Hw] <;> iassumption
  unfold late
  iexact Hc

end Send

end Run

end Cert.AllReduce
-- ==== Proof.Tables.lean ====
/-
The numbers of the program: the offsets its memory accesses use are the rows of the plan and the columns of the parts, and
the devices its transfers are addressed to are the neighbours.
-/
module

public import proofs.«01_k».proof.Proof.Plan

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

theorem off1 : ∀ d : Dev nD, k0_off1 d = ![qr 1 d true true, cs 1] := by decide +kernel
theorem off2 : ∀ d : Dev nD, k0_off2 d = ![qr 0 d true true, cs 0] := by decide +kernel
theorem off3 : ∀ d : Dev nD, k0_off3 d = ![qr 2 d true true, cs 2] := by decide +kernel
theorem off4 : ∀ d : Dev nD, k0_off4 d = ![qr 1 d true false, cs 1] := by decide +kernel
theorem off5 : ∀ d : Dev nD, k0_off5 d = ![qr 0 d true false, cs 0] := by decide +kernel
theorem off6 : ∀ d : Dev nD, k0_off6 d = ![qr 2 d true false, cs 2] := by decide +kernel
theorem off7 : ∀ d : Dev nD, k0_off7 d = ![hr 2 d false, cs 2] := by decide +kernel
theorem off8 : ∀ d : Dev nD, k0_off8 d = ![hr 0 d false, cs 0] := by decide +kernel
theorem off9 : ∀ d : Dev nD, k0_off9 d = ![hr 1 d false, cs 1] := by decide +kernel
theorem off10 : ∀ d : Dev nD, k0_off10 d = ![qr 1 d true true, cs 1] := by decide +kernel
theorem off11 : ∀ d : Dev nD, k0_off11 d = ![qr 0 d true true, cs 0] := by decide +kernel
theorem off12 : ∀ d : Dev nD, k0_off12 d = ![qr 2 d true true, cs 2] := by decide +kernel
theorem off13 : ∀ d : Dev nD, k0_off13 d = ![qr 1 d true false, cs 1] := by decide +kernel
theorem off14 : ∀ d : Dev nD, k0_off14 d = ![qr 0 d true false, cs 0] := by decide +kernel
theorem off15 : ∀ d : Dev nD, k0_off15 d = ![qr 2 d true false, cs 2] := by decide +kernel
theorem off16 : ∀ d : Dev nD, k0_off16 d = ![qr 2 d false true, cs 2] := by decide +kernel
theorem off17 : ∀ d : Dev nD, k0_off17 d = ![er 2 d false true true, cs 2] := by decide +kernel
theorem off18 : ∀ d : Dev nD, k0_off18 d = ![er 2 d false true false, cs 2] := by decide +kernel
theorem off19 : ∀ d : Dev nD, k0_off19 d = ![qr 0 d false true, cs 0] := by decide +kernel
theorem off20 : ∀ d : Dev nD, k0_off20 d = ![er 0 d false true true, cs 0] := by decide +kernel
theorem off21 : ∀ d : Dev nD, k0_off21 d = ![er 0 d false true false, cs 0] := by decide +kernel
theorem off22 : ∀ d : Dev nD, k0_off22 d = ![qr 1 d false true, cs 1] := by decide +kernel
theorem off23 : ∀ d : Dev nD, k0_off23 d = ![er 1 d false true true, cs 1] := by decide +kernel
theorem off24 : ∀ d : Dev nD, k0_off24 d = ![er 1 d false true false, cs 1] := by decide +kernel
theorem off25 : ∀ d : Dev nD, k0_off25 d = ![er 2 d false false true, cs 2] := by decide +kernel
theorem off26 : ∀ d : Dev nD, k0_off26 d = ![1024 + 512 * fl true (bt 2 2 d), 0] := by decide +kernel
theorem off27 : ∀ d : Dev nD, k0_off27 d = ![er 2 d false false true, cs 2] := by decide +kernel
theorem off28 : ∀ d : Dev nD, k0_off28 d = ![er 0 d false false true, cs 0] := by decide +kernel
theorem off29 : ∀ d : Dev nD, k0_off29 d = ![1024 + 512 * fl true (bt 0 2 d), 0] := by decide +kernel
theorem off30 : ∀ d : Dev nD, k0_off30 d = ![er 0 d false false true, cs 0] := by decide +kernel
theorem off31 : ∀ d : Dev nD, k0_off31 d = ![er 1 d false false true, cs 1] := by decide +kernel
theorem off32 : ∀ d : Dev nD, k0_off32 d = ![1024 + 512 * fl true (bt 1 2 d), 0] := by decide +kernel
theorem off33 : ∀ d : Dev nD, k0_off33 d = ![er 1 d false false true, cs 1] := by decide +kernel
theorem off34 : ∀ d : Dev nD, k0_off34 d = ![er 2 d false false false, cs 2] := by decide +kernel
theorem off35 : ∀ d : Dev nD, k0_off35 d = ![1024 + 512 * fl false (bt 2 2 d), 0] := by decide +kernel
theorem off36 : ∀ d : Dev nD, k0_off36 d = ![er 2 d false false false, cs 2] := by decide +kernel
theorem off37 : ∀ d : Dev nD, k0_off37 d = ![er 0 d false false false, cs 0] := by decide +kernel
theorem off38 : ∀ d : Dev nD, k0_off38 d = ![1024 + 512 * fl false (bt 0 2 d), 0] := by decide +kernel
theorem off39 : ∀ d : Dev nD, k0_off39 d = ![er 0 d false false false, cs 0] := by decide +kernel
theorem off40 : ∀ d : Dev nD, k0_off40 d = ![er 1 d false false false, cs 1] := by decide +kernel
theorem off41 : ∀ d : Dev nD, k0_off41 d = ![1024 + 512 * fl false (bt 1 2 d), 0] := by decide +kernel
theorem off42 : ∀ d : Dev nD, k0_off42 d = ![er 1 d false false false, cs 1] := by decide +kernel

theorem dev1 : ∀ d : Dev nD, (⟨k0_dev1 d, k0_dev1_lt d⟩ : Dev nD) = flip 0 d := by decide +kernel
theorem dev2 : ∀ d : Dev nD, (⟨k0_dev2 d, k0_dev2_lt d⟩ : Dev nD) = flip 1 d := by decide +kernel
theorem dev3 : ∀ d : Dev nD, (⟨k0_dev3 d, k0_dev3_lt d⟩ : Dev nD) = flip 2 d := by decide +kernel
theorem dev4 : ∀ d : Dev nD, (⟨k0_dev4 d, k0_dev4_lt d⟩ : Dev nD) = nb 1 0 d := by decide +kernel
theorem dev5 : ∀ d : Dev nD, (⟨k0_dev5 d, k0_dev5_lt d⟩ : Dev nD) = nb 0 0 d := by decide +kernel
theorem dev6 : ∀ d : Dev nD, (⟨k0_dev6 d, k0_dev6_lt d⟩ : Dev nD) = nb 2 0 d := by decide +kernel
theorem dev7 : ∀ d : Dev nD, (⟨k0_dev7 d, k0_dev7_lt d⟩ : Dev nD) = nb 1 0 d := by decide +kernel
theorem dev8 : ∀ d : Dev nD, (⟨k0_dev8 d, k0_dev8_lt d⟩ : Dev nD) = nb 0 0 d := by decide +kernel
theorem dev9 : ∀ d : Dev nD, (⟨k0_dev9 d, k0_dev9_lt d⟩ : Dev nD) = nb 2 0 d := by decide +kernel
theorem dev10 : ∀ d : Dev nD, (⟨k0_dev10 d, k0_dev10_lt d⟩ : Dev nD) = nb 2 1 d := by decide +kernel
theorem dev11 : ∀ d : Dev nD, (⟨k0_dev11 d, k0_dev11_lt d⟩ : Dev nD) = nb 2 1 d := by decide +kernel
theorem dev12 : ∀ d : Dev nD, (⟨k0_dev12 d, k0_dev12_lt d⟩ : Dev nD) = nb 0 1 d := by decide +kernel
theorem dev13 : ∀ d : Dev nD, (⟨k0_dev13 d, k0_dev13_lt d⟩ : Dev nD) = nb 0 1 d := by decide +kernel
theorem dev14 : ∀ d : Dev nD, (⟨k0_dev14 d, k0_dev14_lt d⟩ : Dev nD) = nb 1 1 d := by decide +kernel
theorem dev15 : ∀ d : Dev nD, (⟨k0_dev15 d, k0_dev15_lt d⟩ : Dev nD) = nb 1 1 d := by decide +kernel
theorem dev16 : ∀ d : Dev nD, (⟨k0_dev16 d, k0_dev16_lt d⟩ : Dev nD) = nb 2 2 d := by decide +kernel
theorem dev17 : ∀ d : Dev nD, (⟨k0_dev17 d, k0_dev17_lt d⟩ : Dev nD) = nb 0 2 d := by decide +kernel
theorem dev18 : ∀ d : Dev nD, (⟨k0_dev18 d, k0_dev18_lt d⟩ : Dev nD) = nb 1 2 d := by decide +kernel
theorem dev19 : ∀ d : Dev nD, (⟨k0_dev19 d, k0_dev19_lt d⟩ : Dev nD) = nb 2 2 d := by decide +kernel
theorem dev20 : ∀ d : Dev nD, (⟨k0_dev20 d, k0_dev20_lt d⟩ : Dev nD) = nb 2 1 d := by decide +kernel
theorem dev21 : ∀ d : Dev nD, (⟨k0_dev21 d, k0_dev21_lt d⟩ : Dev nD) = nb 2 0 d := by decide +kernel
theorem dev22 : ∀ d : Dev nD, (⟨k0_dev22 d, k0_dev22_lt d⟩ : Dev nD) = nb 0 2 d := by decide +kernel
theorem dev23 : ∀ d : Dev nD, (⟨k0_dev23 d, k0_dev23_lt d⟩ : Dev nD) = nb 0 1 d := by decide +kernel
theorem dev24 : ∀ d : Dev nD, (⟨k0_dev24 d, k0_dev24_lt d⟩ : Dev nD) = nb 0 0 d := by decide +kernel
theorem dev25 : ∀ d : Dev nD, (⟨k0_dev25 d, k0_dev25_lt d⟩ : Dev nD) = nb 1 2 d := by decide +kernel
theorem dev26 : ∀ d : Dev nD, (⟨k0_dev26 d, k0_dev26_lt d⟩ : Dev nD) = nb 1 1 d := by decide +kernel
theorem dev27 : ∀ d : Dev nD, (⟨k0_dev27 d, k0_dev27_lt d⟩ : Dev nD) = nb 1 0 d := by decide +kernel
theorem dev28 : ∀ d : Dev nD, (⟨k0_dev28 d, k0_dev28_lt d⟩ : Dev nD) = nb 2 1 d := by decide +kernel
theorem dev29 : ∀ d : Dev nD, (⟨k0_dev29 d, k0_dev29_lt d⟩ : Dev nD) = nb 2 0 d := by decide +kernel
theorem dev30 : ∀ d : Dev nD, (⟨k0_dev30 d, k0_dev30_lt d⟩ : Dev nD) = nb 0 1 d := by decide +kernel
theorem dev31 : ∀ d : Dev nD, (⟨k0_dev31 d, k0_dev31_lt d⟩ : Dev nD) = nb 0 0 d := by decide +kernel
theorem dev32 : ∀ d : Dev nD, (⟨k0_dev32 d, k0_dev32_lt d⟩ : Dev nD) = nb 1 1 d := by decide +kernel
theorem dev33 : ∀ d : Dev nD, (⟨k0_dev33 d, k0_dev33_lt d⟩ : Dev nD) = nb 1 0 d := by decide +kernel
theorem dev34 : ∀ d : Dev nD, (⟨k0_dev34 d, k0_dev34_lt d⟩ : Dev nD) = nb 2 0 d := by decide +kernel
theorem dev35 : ∀ d : Dev nD, (⟨k0_dev35 d, k0_dev35_lt d⟩ : Dev nD) = nb 0 0 d := by decide +kernel
theorem dev36 : ∀ d : Dev nD, (⟨k0_dev36 d, k0_dev36_lt d⟩ : Dev nD) = nb 1 0 d := by decide +kernel
theorem dev37 : ∀ d : Dev nD, (⟨k0_dev37 d, k0_dev37_lt d⟩ : Dev nD) = nb 2 0 d := by decide +kernel
theorem dev38 : ∀ d : Dev nD, (⟨k0_dev38 d, k0_dev38_lt d⟩ : Dev nD) = nb 0 0 d := by decide +kernel
theorem dev39 : ∀ d : Dev nD, (⟨k0_dev39 d, k0_dev39_lt d⟩ : Dev nD) = nb 1 0 d := by decide +kernel

end Cert.AllReduce
-- ==== Proof.Moves.lean ====
/-
The moves of the run: what the sums are made of, and the steps of the program at each kind of buffer — the loads and stores
of blocks, the first two sends from the staging buffers, the sends of sums, the sends of results.
-/
module

public import proofs.«01_k».proof.Proof.Steps
public import proofs.«01_k».proof.Proof.Tables

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Moves

variable (X : Dev nD → ℕ → ℕ → Elt F .f32)

/-! ## The values -/

theorem st_fst (p : Fin 3) (c : Dev nD) {a : ℕ} (b : ℕ) (ha : a < 1024) :
    St X p c (0 + a) (0 + b) = Yv X c (qr p c true true + a) (cs p + b) := by
  unfold St; rw [if_pos (by omega), Nat.zero_add, Nat.zero_add]
theorem st_snd (p : Fin 3) (c : Dev nD) (a b : ℕ) : St X p c (1024 + a) (0 + b) = Yv X c (qr p c true false + a) (cs p + b) := by
  unfold St; rw [if_neg (by omega), Nat.add_sub_cancel_left, Nat.zero_add]

theorem er_qr (p : Fin 3) (d : Dev nD) (f g h : Bool) : er p d f g h = qr p d f g + 512 * fl h (bt p 2 d) := rfl

theorem sum_fst (p : Fin 3) (c : Dev nD) {a : ℕ} (b : ℕ) (ha : a < 1024) :
    FloatOps.addf (Yv X c (qr p c false true + a) (cs p + b)) (Rb X p c (0 + a) (0 + b)) = Av X p c (qr p c false true + a) (cs p + b) := by
  unfold Av Rb; rw [if_pos (by omega), Nat.zero_add, Nat.zero_add]

theorem rb_pair (p : Fin 3) (c : Dev nD) (h : Bool) {a : ℕ} (b : ℕ) (ha : a < 512) :
    Rb X p c (1024 + 512 * fl h (bt p 2 c) + a) (0 + b) = Yv X (nb p 0 c) (er p c false false h + a) (cs p + b) := by
  have hb := bt_le p 2 c
  have hf : fl h (bt p 2 c) ≤ 1 := by cases h <;> unfold fl <;> simp only [if_true, if_false, Bool.false_eq_true] <;> omega
  unfold Rb
  rw [if_neg (by omega), if_pos (by omega), er_qr, Nat.zero_add]
  congr 1; omega

theorem sum_snd (p : Fin 3) (c : Dev nD) {a : ℕ} (b : ℕ) (ha : a < 512) :
    FloatOps.addf (FloatOps.addf (Yv X c (er p c false false true + a) (cs p + b)) (Rb X p c (1024 + 512 * fl true (bt p 2 c) + a) (0 + b)))
        (Rb X p c (2048 + a) (0 + b)) = Bv X p c (er p c false false true + a) (cs p + b) := by
  rw [rb_pair X p c true b ha]
  unfold Bv Av Rb
  rw [if_neg (by omega), if_neg (by omega), if_pos (by omega), Nat.add_sub_cancel_left, Nat.zero_add]
  rfl

theorem sum_trd (p : Fin 3) (c : Dev nD) {a : ℕ} (b : ℕ) (ha : a < 512) :
    FloatOps.addf (FloatOps.addf (FloatOps.addf (Yv X c (er p c false false false + a) (cs p + b))
        (Rb X p c (1024 + 512 * fl false (bt p 2 c) + a) (0 + b))) (Rb X p c (2560 + a) (0 + b))) (Rb X p c (3072 + a) (0 + b))
      = Rv X p (er p c false false false + a) (cs p + b) := by
  have h1 : Rb X p c (2560 + a) (0 + b) = Av X p (nb p 1 c) (er p c false false false + a) (cs p + b) := by
    unfold Rb; rw [if_neg (by omega), if_neg (by omega), if_neg (by omega), if_pos (by omega), Nat.add_sub_cancel_left, Nat.zero_add]
  have h2 : Rb X p c (3072 + a) (0 + b) = Bv X p (nb p 2 c) (er p c false false false + a) (cs p + b) := by
    unfold Rb; rw [if_neg (by omega), if_neg (by omega), if_neg (by omega), if_neg (by omega), Nat.add_sub_cancel_left, Nat.zero_add]
  rw [rb_pair X p c false b ha, h1, h2]
  unfold Rv
  rw [own_er p c _ (Nat.le_add_right _ _) (by omega)]
  rfl

/-- What is put in a staging buffer: the narrowed values, element by element. -/
theorem pay1_at (v : FVec F S1024x384 .f32) (x : S1024x384.Idx) : k0_pay1 v x = FloatOps.truncf .bf16 bitsLt_bf16_f32 (v x) := by
  show truncf .bf16 v bitsLt_bf16_f32 (Shape.reshapeEquiv _ x) = _
  rw [Shape.reshapeEquiv_self]; rfl
theorem pay2_at (v : FVec F S1024x384 .f32) (x : S1024x384.Idx) : k0_pay2 v x = FloatOps.truncf .bf16 bitsLt_bf16_f32 (v x) := by
  show truncf .bf16 v bitsLt_bf16_f32 (Shape.reshapeEquiv _ x) = _
  rw [Shape.reshapeEquiv_self]; rfl
theorem pay3_at (v : FVec F S1024x256 .f32) (x : S1024x256.Idx) : k0_pay3 v x = FloatOps.truncf .bf16 bitsLt_bf16_f32 (v x) := by
  show truncf .bf16 v bitsLt_bf16_f32 (Shape.reshapeEquiv _ x) = _
  rw [Shape.reshapeEquiv_self]; rfl
theorem pay4_at (v : FVec F S1024x384 .f32) (x : S1024x384.Idx) : k0_pay4 v x = FloatOps.truncf .bf16 bitsLt_bf16_f32 (v x) := by
  show truncf .bf16 v bitsLt_bf16_f32 (Shape.reshapeEquiv _ x) = _
  rw [Shape.reshapeEquiv_self]; rfl
theorem pay5_at (v : FVec F S1024x384 .f32) (x : S1024x384.Idx) : k0_pay5 v x = FloatOps.truncf .bf16 bitsLt_bf16_f32 (v x) := by
  show truncf .bf16 v bitsLt_bf16_f32 (Shape.reshapeEquiv _ x) = _
  rw [Shape.reshapeEquiv_self]; rfl
theorem pay6_at (v : FVec F S1024x256 .f32) (x : S1024x256.Idx) : k0_pay6 v x = FloatOps.truncf .bf16 bitsLt_bf16_f32 (v x) := by
  show truncf .bf16 v bitsLt_bf16_f32 (Shape.reshapeEquiv _ x) = _
  rw [Shape.reshapeEquiv_self]; rfl

/-! ## Blocks -/

theorem held_free {sp : Space} {sz : Fin 2 → ℕ} {e : EltTy} (M : Memref sig .tc sp (Sh sz) e) (d : Dev nD) (r h c w : ℕ) (φ : ℕ → ℕ → Elt F e) :
    held M d fullShare r h c w φ ⊢ free M d r h c w := by
  unfold free; iintro H; iexists φ; iexact H

/-- A quarter of the rows is two eighths, the one at the device's coordinate and the other. -/
theorem quarter {sp : Space} {sz : Fin 2 → ℕ} {e : EltTy} (M : Memref sig .tc sp (Sh sz) e) (d : Dev nD) (q : PosShare TreeShare) (p : Fin 3)
    (d' : Dev nD) (f g : Bool) (c w : ℕ) (φ : ℕ → ℕ → Elt F e) :
    (held M d q (qr p d' f g) 1024 c w φ : sProp 𝕄)
      ⊣⊢ iprop(held M d q (er p d' f g false) 512 c w φ ∗ held M d q (er p d' f g true) 512 c w φ) := by
  have h := held_rows (F := F) M d q (qr p d' f g) 512 512 c w φ
  have hb := bt_le p 2 d'
  rw [er_qr, er_qr]
  rcases (show bt p 2 d' = 0 ∨ bt p 2 d' = 1 by omega) with e0 | e0
  · rw [e0]; exact h
  · rw [e0]; exact h.trans (sep_comm (PROP := sProp 𝕄))

/-- An eighth of the results, in the three shares its sends take. -/
theorem thirds (p : Fin 3) (c : Dev nD) (r : ℕ) :
    (outp p c fullShare r (Rv X p) : sProp 𝕄)
      ⊣⊢ iprop(outp p c fullShare.left r (Rv X p) ∗ outp p c fullShare.right.left r (Rv X p) ∗ outp p c fullShare.right.right r (Rv X p)) :=
  (held_halves (F := F) oM c fullShare r 512 (cs p) (wd p) (Rv X p)).trans
    (sep_congr_right (held_halves (F := F) oM c fullShare.right r 512 (cs p) (wd p) (Rv X p)))

theorem sub_q (p : Fin 3) (d : Dev nD) : hr p d false ≤ qr p d false true ∧ qr p d false true + 1024 ≤ hr p d false + 2048 := by
  have h := bt_le p 1 d
  unfold hr qr fl; simp only [if_true, if_false, Bool.false_eq_true]; omega
theorem sub_e (p : Fin 3) (d : Dev nD) (h : Bool) : hr p d false ≤ er p d false false h ∧ er p d false false h + 512 ≤ hr p d false + 2048 := by
  have h1 := bt_le p 1 d
  have h2 := bt_le p 2 d
  cases h <;> unfold hr er fl <;> simp only [if_true, if_false, Bool.false_eq_true] <;> omega
theorem sub_l (p : Fin 3) (d : Dev nD) (h : Bool) :
    1024 ≤ 1024 + 512 * fl h (bt p 2 d) ∧ 1024 + 512 * fl h (bt p 2 d) + 512 ≤ 1024 + 1024 := by
  have h2 := bt_le p 2 d
  cases h <;> unfold fl <;> simp only [if_true, if_false, Bool.false_eq_true] <;> omega

/-! ## What the barrier brings -/

/-- The places on the neighbours that a device writes in part `p`: all but the first, and all. -/
def rest (p : Fin 3) (c : Dev nD) : sProp 𝕄 :=
  iprop(landFree (F := F) p (nb p 0 c) 1024 1024 ∗ landFree p (nb p 1 c) 2048 512 ∗ landFree p (nb p 1 c) 2560 512 ∗ landFree p (nb p 2 c) 3072 512
    ∗ outFree p (nb p 0 c) (er p c false false false) ∗ outFree p (nb p 0 c) (er p c false false true)
    ∗ outFree p (nb p 0 c) (er p c false true false) ∗ outFree p (nb p 0 c) (er p c false true true))
def room (p : Fin 3) (c : Dev nD) : sProp 𝕄 := iprop(landFree (F := F) p (nb p 0 c) 0 1024 ∗ rest p c)

theorem room_of (p : Fin 3) (c : Dev nD) :
    iprop(give (F := F) p 0 (nb p 0 c) ∗ give p 1 (nb p 1 c) ∗ give p 2 (nb p 2 c)) ⊢ room p c := by
  unfold give room rest
  simp only [er_nb0, Bool.not_true]
  iintro ⟨⟨H1, H2, H3, H4, H5, H6⟩, ⟨H7, H8⟩, H9⟩
  iframe H1 H2 H7 H8 H9 H3 H4 H5
  iexact H6

/-- The three neighbours' word brings every place the device writes. -/
theorem bar_split (c : Dev nD) : gain X c bar ⊢ iprop(room (F := F) 0 c ∗ (landFree 1 (nb 1 0 c) 0 1024 ∗ rest 1 c) ∗ room 2 c) := by
  show iprop((give 0 0 (nb 0 0 c) ∗ give 1 2 (nb 1 2 c) ∗ give 2 1 (nb 2 1 c)) ∗ (give 0 1 (nb 0 1 c) ∗ give 1 0 (nb 1 0 c) ∗ give 2 2 (nb 2 2 c))
    ∗ (give 0 2 (nb 0 2 c) ∗ give 1 1 (nb 1 1 c) ∗ give 2 0 (nb 2 0 c))) ⊢ _
  iintro ⟨⟨A0, B2, C1⟩, ⟨A1, B0, C2⟩, ⟨A2, B1, C0⟩⟩
  isplitl [A0 A1 A2]
  · iapply (room_of (F := F) 0 c); iframe A0 A1; iexact A2
  isplitl [B0 B1 B2]
  · iapply (show _ ⊢ iprop(landFree 1 (nb 1 0 c) 0 1024 ∗ rest 1 c) from room_of (F := F) 1 c); iframe B0 B1; iexact B2
  iapply (room_of (F := F) 2 c); iframe C0 C1; iexact C2

/-- What a device hands a neighbour at the barrier, put together. -/
theorem bar_make (n : Fin 3) (c : Dev nD) : iprop(give (F := F) 0 (n - 0) c ∗ give 1 (n - 1) c ∗ give 2 (n - 2) c) ⊢ barPay (flip n c) n := by
  unfold barPay; rw [flip_flip]

variable (K : Dev nD × Cx → ℕ) (c : Dev nD) {A : Type} {i j : ℕ}

theorem runs_bind {B : Type} (p : Prog (TpuEff nD τ sig (Elt F) Λ₀ .tc) A) (k : A → Prog (TpuEff nD τ sig (Elt F) Λ₀ .tc) B)
    (Q : B → sProp 𝕄) : runs c p (fun a => runs c (k a) Q) ⊢ runs c (p >>= k) Q := Entails.of_eq (wp_bind ..).symm
theorem runs_ret (a : A) (Q : A → sProp 𝕄) : Q a ⊢ runs c (.ret a) Q := by
  iintro H
  unfold runs
  rw [wp_ret]; imodintro
  iexact H

/-- The waits: on a local copy, on a send to have left, on an arrival. -/
theorem wait_cp {Q : A → sProp 𝕄} (p n : Fin 3) {R : sProp 𝕄} (hR : locB X p n c = R) {sem : DmaSem sig} {sp : Space} {s : Shape} {e : EltTy}
    {src : Memref sig .tc sp s e} {off size : Fin 2 → ℕ} {inb : ∀ a, off a + size a ≤ (![4096, 1024] : Fin 2 → ℕ) a} {hr} {h₁ h₂}
    (hx : wl j = cp p n := by exact rfl) (hj : j < 82 := by decide) (hs : SemLoc.dma sem = ksem (cp p n) := by exact rfl)
    (hh : size 0 = cpLen n := by exact rfl) (hw : size 1 = wd p := by exact rfl)
    {k : PUnit → Prog (TpuEff nD τ sig (Elt F) Λ₀ .tc) A} :
    run X K c i j ⊢ iprop(late c (cp p n) -∗ ((run X K c i (j + 1) ∗ R) -∗ runs c (k ⟨⟩) Q)
      -∗ runs c (.op (.waitDma2 sem src (vM.slice (Rect.unit (s := Sh ![4096, 1024]) off size inb) hr) h₁ h₂) k) Q) :=
  hR ▸ wait_late X K c (cp p n) hx hj rfl hs (cp_credit p n hh hw _)
theorem wait_snd {Q : A → sProp 𝕄} (p : Fin 3) (n : Fin 12) {R : sProp 𝕄} (hR : sndPay X p n c = R) {sem : DmaSem sig} {sp sp' : Space}
    {s s' : Shape} {e e' : EltTy} {src : Memref sig .tc sp s e} {dst : Memref sig .tc sp' s' e'} {h₁ h₂}
    (hx : wl j = snd p n := by exact rfl) (hj : j < 82 := by decide)
    (hs : SemLoc.dma sem = ksem (snd p n) := by exact rfl) (hk : dst.view.dmaCredit = full (snd p n) := by
      first
        | exact rfl
        | exact Eq.trans (b := RefSig.tileCredit (Sh ![512, 384]) .bf16) rfl rfl
        | exact Eq.trans (b := RefSig.tileCredit (Sh ![512, 256]) .bf16) rfl rfl)
    {k : PUnit → Prog (TpuEff nD τ sig (Elt F) Λ₀ .tc) A} :
    run X K c i j ⊢ iprop(late c (snd p n) -∗ ((run X K c i (j + 1) ∗ R) -∗ runs c (k ⟨⟩) Q)
      -∗ runs c (.op (.waitDma2 sem src dst h₁ h₂) k) Q) := hR ▸ wait_late X K c (snd p n) hx hj rfl hs hk
theorem wait_arr {Q : A → sProp 𝕄} (p : Fin 3) (n : Fin 12) {R : sProp 𝕄} (hR : rcvPay X p n c = R) {sem : DmaSem sig} {sp sp' : Space}
    {s s' : Shape} {e e' : EltTy} {src : Memref sig .tc sp s e} {dst : Memref sig .tc sp' s' e'} {h₁ h₂}
    (hx : wl j = rcv p n := by exact rfl) (hj : j < 82 := by decide) (hl : 3 ≤ i ∧ lvx (rcv p n) + 2 ≤ i := by decide)
    (hs : SemLoc.dma sem = ksem (rcv p n) := by exact rfl) (hk : dst.view.dmaCredit = full (rcv p n) := by
      first
        | exact rfl
        | exact Eq.trans (b := RefSig.tileCredit (Sh ![512, 384]) .bf16) rfl rfl
        | exact Eq.trans (b := RefSig.tileCredit (Sh ![512, 256]) .bf16) rfl rfl)
    {k : PUnit → Prog (TpuEff nD τ sig (Elt F) Λ₀ .tc) A} :
    run X K c i j ⊢ iprop(((run X K c i (j + 1) ∗ R) -∗ runs c (k ⟨⟩) Q)
      -∗ runs c (.op (.waitDma2 sem src dst h₁ h₂) k) Q) := hR ▸ wait_rcv X K c p n hx hj hl hs hk

/-! ## Loads and stores -/

section Access
variable {sz : Fin 2 → ℕ} {e : EltTy} (M : Memref sig .tc (CoreSpace.vmem) (Sh sz) e)
variable {off size : Fin 2 → ℕ} {inb : ∀ a, off a + size a ≤ sz a}

/-- A load of a whole block that is held. -/
theorem load_whole {Q : A → sProp 𝕄} {r h k w : ℕ} {φ : ℕ → ℕ → Elt F e} (ho : off = ![r, k]) (hs : size 0 = h ∧ size 1 = w := by exact ⟨rfl, rfl⟩)
    {hl : M.view.LoadsAt (Rect.unit (s := Sh sz) off size inb).toLoadRect}
    {kk : ((Sh size).Idx → Elt F e) → Prog (TpuEff nD τ sig (Elt F) Λ₀ .tc) A} :
    (held M c fullShare r h k w φ : sProp 𝕄)
      ⊢ iprop((held M c fullShare r h k w φ -∗ runs c (kk fun x => φ (r + (x 0).val) (k + (x 1).val)) Q)
          -∗ runs c (.op (.load M (Rect.unit (s := Sh sz) off size inb).toLoadRect hl) kk) Q) :=
  load_held M c fullShare r k ho φ (by omega)

/-- A load of some rows of a block that is held. -/
theorem load_rows {Q : A → sProp 𝕄} {R H r h k w : ℕ} {φ : ℕ → ℕ → Elt F e} (ho : off = ![r, k]) (hr : R ≤ r ∧ r + h ≤ R + H)
    (hs : size 0 = h ∧ size 1 = w := by exact ⟨rfl, rfl⟩)
    {hl : M.view.LoadsAt (Rect.unit (s := Sh sz) off size inb).toLoadRect}
    {kk : ((Sh size).Idx → Elt F e) → Prog (TpuEff nD τ sig (Elt F) Λ₀ .tc) A} :
    (held M c fullShare R H k w φ : sProp 𝕄)
      ⊢ iprop((held M c fullShare R H k w φ -∗ runs c (kk fun x => φ (r + (x 0).val) (k + (x 1).val)) Q)
          -∗ runs c (.op (.load M (Rect.unit (s := Sh sz) off size inb).toLoadRect hl) kk) Q) :=
  load_held M c fullShare r k ho φ (by omega)

/-- A load of a whole block of whatever contents, of which nothing is used. -/
theorem load_free {Q : A → sProp 𝕄} {r h k w : ℕ} (ho : off = ![r, k]) (hs : size 0 = h ∧ size 1 = w := by exact ⟨rfl, rfl⟩)
    {hl : M.view.LoadsAt (Rect.unit (s := Sh sz) off size inb).toLoadRect}
    {kk : Prog (TpuEff nD τ sig (Elt F) Λ₀ .tc) A} :
    (free M c r h k w : sProp 𝕄)
      ⊢ iprop((free M c r h k w -∗ runs c kk Q)
          -∗ runs c (.op (.load M (Rect.unit (s := Sh sz) off size inb).toLoadRect hl) fun _ => kk) Q) := by
  unfold free
  iintro ⟨%φ, H⟩ Hk
  iapply (load_held M c fullShare r k ho φ (by omega)) $$ H
  iintro H
  iapply Hk
  iexists φ; iexact H

/-- A store over a whole block. -/
theorem store_free {Q : A → sProp 𝕄} {r h k w : ℕ} (ho : off = ![r, k]) {v : (Sh size).Idx → Elt F e}
    (ψ : ℕ → ℕ → Elt F e) (hv : ∀ x : (Sh size).Idx, v x = ψ (r + (x 0).val) (k + (x 1).val)) (hs : size 0 = h ∧ size 1 = w := by exact ⟨rfl, rfl⟩)
    {hx : (M.access (Rect.unit (s := Sh sz) off size inb)).Stores Finset.univ} {hm}
    {kk : PUnit → Prog (TpuEff nD τ sig (Elt F) Λ₀ .tc) A} :
    (free M c r h k w : sProp 𝕄)
      ⊢ iprop((held M c fullShare r h k w ψ -∗ runs c (kk ⟨⟩) Q)
          -∗ runs c (.op (.store M (Rect.unit (s := Sh sz) off size inb) v Finset.univ hx hm) kk) Q) := by
  unfold free
  iintro ⟨%φ, H⟩ Hk
  iapply (store_held M c r k ho hs.1 hs.2 ψ hv) $$ H
  iintro H
  iapply Hk; iexact H
end Access

/-! ## Sends -/

section Sends
variable (p : Fin 3) {off size off₁ off₂ : Fin 2 → ℕ}

/-- The sends of the staging buffer's two quarters: to the same rows of the neighbour's landing buffer. -/
theorem send_quarter {Q : A → sProp 𝕄} (t : Fin 2) (s : Fin 12) (hst : s.val = t.val)
    {inb₁ : ∀ a, off a + size a ≤ (![2048, wd p] : Fin 2 → ℕ) a} {inb₂ : ∀ a, off a + size a ≤ (![3584, wd p] : Fin 2 → ℕ) a}
     {hr₁ hr₂}
    {e : Dev nD} (he : e = nb p 0 c)
    (ho : off = ![1024 * t.val, 0] := by exact rfl) (hs : sendAt i = (p, s) := by exact rfl) (hi : 3 ≤ i ∧ i < 39 := by decide) (hh : size 0 = 1024 := by exact rfl) (hw : size 1 = wd p := by exact rfl)
    {sS sm : SemLoc sig} (hsS : sS = ksem (snd p s) := by exact rfl) (hsm : sm = ksem (rcv p s) := by exact rfl)
    (hN : ((rbM p).slice (Rect.unit (s := Sh ![3584, wd p]) off size inb₂) hr₂).view.amount sm = amt (rcv p s) := by exact rfl)
    {hsc h₁ h₂ h₃} {k : PUnit → Prog (TpuEff nD τ sig (Elt F) Λ₀ .tc) A} :
    run X K c i j ⊢ iprop(held (stM p) c fullShare (1024 * t.val) 1024 0 (wd p) (St X p c) -∗ landFree p (nb p 0 c) (1024 * t.val) 1024
        -∗ ((run X K c (i + 1) j ∗ late c (snd p s)) -∗ runs c (k ⟨⟩) Q)
        -∗ runs c (.op (.enqueueDma ((stM p).slice (Rect.unit (s := Sh ![2048, wd p]) off size inb₁) hr₁)
            (.remote (Dev.tc e : Thread nD τ) ((rbM p).slice (Rect.unit (s := Sh ![3584, wd p]) off size inb₂) hr₂) sS hsc) sm h₁ h₂ h₃) k) Q) := by
  obtain ⟨hd, hc⟩ := (by decide : ∀ (t : Fin 2) (s : Fin 12), s.val = t.val → dimOf s = 0 ∧ (s = 0 ∧ t = 0 ∨ s = 1 ∧ t = 1)) t s hst
  rw [← hd] at he ⊢
  refine send_step X K c p s (stM p) (rbM p) hs hi ho ho hh hw (St X p c) he hsS hsm hN (.inl ⟨?_, ?_⟩)
  · rcases hc with ⟨rfl, rfl⟩ | ⟨rfl, rfl⟩ <;> exact Entails.refl _
  · rw [hd]
    rcases hc with ⟨rfl, rfl⟩ | ⟨rfl, rfl⟩
    · refine Entails.of_eq (held_congr (rbM p) (nb p 0 c) fullShare fun a b h1 h2 h3 h4 => ?_)
      change a < 0 + 1024 at h2
      unfold moved St Rb
      rw [nb_nb, qr_nb0, show a - 1024 * (0 : Fin 2).val + 1024 * (0 : Fin 2).val = a from rfl, show b - 0 + 0 = b from rfl, if_pos (by omega), if_pos (by omega)]
      rfl
    · refine Entails.of_eq (held_congr (rbM p) (nb p 0 c) fullShare fun a b h1 h2 h3 h4 => ?_)
      change 1024 ≤ a at h1; change a < 1024 + 1024 at h2
      unfold moved St Rb
      rw [nb_nb, qr_nb0 p c false false, show a - 1024 * (1 : Fin 2).val + 1024 * (1 : Fin 2).val = a by show a - 1024 + 1024 = a; omega,
        show b - 0 + 0 = b from rfl, if_neg (by omega), if_neg (by omega), if_pos (by omega)]
      rfl

/-- The sends of an eighth of sums: to the neighbour's landing buffer; the place they leave goes with them. -/
theorem send_sum {Q : A → sProp 𝕄} (s : Fin 12) (k₀ : Fin 3) (hk₀ : dimOf s = k₀) (r₂ : ℕ) (g h : Bool) (φ : ℕ → ℕ → Elt F .bf16)
    (hpay : rcvPay X p s (nb p k₀ c) = iprop(land X p (nb p k₀ c) r₂ 512 ∗ outp p c fullShare (er p c false g h) φ))
    (hemp : sndPay X p s c = iprop(emp))
    (hφ : ∀ a b, a < 512 → Rb X p (nb p k₀ c) (r₂ + a) (0 + b) = φ (er p c false g h + a) (cs p + b))
    {inb₁ : ∀ a, off₁ a + size a ≤ (![4096, 1024] : Fin 2 → ℕ) a} {inb₂ : ∀ a, off₂ a + size a ≤ (![3584, wd p] : Fin 2 → ℕ) a}
    (ho₁ : off₁ = ![er p c false g h, cs p]) (ho₂ : off₂ = ![r₂, 0]) {hr₁ hr₂}
    {e : Dev nD} (he : e = nb p k₀ c)
    (hs : sendAt i = (p, s) := by exact rfl) (hi : 3 ≤ i ∧ i < 39 := by decide) (hh : size 0 = 512 := by exact rfl) (hw : size 1 = wd p := by exact rfl)
    {sS sm : SemLoc sig} (hsS : sS = ksem (snd p s) := by exact rfl) (hsm : sm = ksem (rcv p s) := by exact rfl)
    (hN : ((rbM p).slice (Rect.unit (s := Sh ![3584, wd p]) off₂ size inb₂) hr₂).view.amount sm = amt (rcv p s) := by exact rfl)
    {hsc h₁ h₂ h₃} {k : PUnit → Prog (TpuEff nD τ sig (Elt F) Λ₀ .tc) A} :
    run X K c i j ⊢ iprop(outp p c fullShare (er p c false g h) φ -∗ landFree p (nb p k₀ c) r₂ 512
        -∗ ((run X K c (i + 1) j ∗ late c (snd p s)) -∗ runs c (k ⟨⟩) Q)
        -∗ runs c (.op (.enqueueDma (oM.slice (Rect.unit (s := Sh ![4096, 1024]) off₁ size inb₁) hr₁)
            (.remote (Dev.tc e : Thread nD τ) ((rbM p).slice (Rect.unit (s := Sh ![3584, wd p]) off₂ size inb₂) hr₂) sS hsc) sm h₁ h₂ h₃) k) Q) := by
  subst hk₀
  refine send_step X K c p s oM (rbM p) hs hi ho₁ ho₂ hh hw φ he hsS hsm hN (.inr ⟨Entails.of_eq hemp.symm, ?_⟩)
  rw [hpay]
  refine BIClass.sep_mono (Entails.of_eq (held_congr (rbM p) _ fullShare fun a b h1 h2 h3 h4 => ?_)) (Entails.refl _)
  obtain ⟨a', rfl⟩ := Nat.exists_eq_add_of_le h1
  obtain ⟨b', rfl⟩ := Nat.exists_eq_add_of_le h3
  rw [moved_at, hφ a' b' (by omega)]

theorem send_S1A {Q : A → sProp 𝕄}
    {inb₁ : ∀ a, off₁ a + size a ≤ (![4096, 1024] : Fin 2 → ℕ) a} {inb₂ : ∀ a, off₂ a + size a ≤ (![3584, wd p] : Fin 2 → ℕ) a}
    (ho₁ : off₁ = ![er p c false true true, cs p]) {hr₁ hr₂}
    {e : Dev nD} (he : e = nb p 1 c)
    (ho₂ : off₂ = ![2048, 0] := by exact rfl) (hs : sendAt i = (p, 2) := by exact rfl) (hi : 3 ≤ i ∧ i < 39 := by decide) (hh : size 0 = 512 := by exact rfl) (hw : size 1 = wd p := by exact rfl)
    {sS sm : SemLoc sig} (hsS : sS = ksem (snd p 2) := by exact rfl) (hsm : sm = ksem (rcv p 2) := by exact rfl)
    (hN : ((rbM p).slice (Rect.unit (s := Sh ![3584, wd p]) off₂ size inb₂) hr₂).view.amount sm = amt (rcv p 2) := by exact rfl)
    {hsc h₁ h₂ h₃} {k : PUnit → Prog (TpuEff nD τ sig (Elt F) Λ₀ .tc) A} :
    run X K c i j ⊢ iprop(outp p c fullShare (er p c false true true) (Av X p c) -∗ landFree p (nb p 1 c) 2048 512
        -∗ ((run X K c (i + 1) j ∗ late c (snd p 2)) -∗ runs c (k ⟨⟩) Q)
        -∗ runs c (.op (.enqueueDma (oM.slice (Rect.unit (s := Sh ![4096, 1024]) off₁ size inb₁) hr₁)
            (.remote (Dev.tc e : Thread nD τ) ((rbM p).slice (Rect.unit (s := Sh ![3584, wd p]) off₂ size inb₂) hr₂) sS hsc) sm h₁ h₂ h₃) k) Q) :=
  send_sum X K c p 2 1 rfl 2048 true true (Av X p c)
    (by show iprop(land X p (nb p 1 c) 2048 512 ∗ outp p (nb p 1 (nb p 1 c)) fullShare (er p (nb p 1 c) false false true) (Av X p (nb p 1 (nb p 1 c)))) = _
        rw [nb_nb, er_nb1]; rfl) rfl
    (fun a b ha => by
      unfold Rb
      rw [if_neg (by omega), if_neg (by omega), if_pos (by omega), nb_nb, er_nb1, Nat.add_sub_cancel_left, Nat.zero_add]; rfl)
    ho₁ ho₂ he hs hi hh hw hsS hsm hN

theorem send_S1B {Q : A → sProp 𝕄}
    {inb₁ : ∀ a, off₁ a + size a ≤ (![4096, 1024] : Fin 2 → ℕ) a} {inb₂ : ∀ a, off₂ a + size a ≤ (![3584, wd p] : Fin 2 → ℕ) a}
    (ho₁ : off₁ = ![er p c false true false, cs p]) {hr₁ hr₂}
    {e : Dev nD} (he : e = nb p 1 c)
    (ho₂ : off₂ = ![2560, 0] := by exact rfl) (hs : sendAt i = (p, 3) := by exact rfl) (hi : 3 ≤ i ∧ i < 39 := by decide) (hh : size 0 = 512 := by exact rfl) (hw : size 1 = wd p := by exact rfl)
    {sS sm : SemLoc sig} (hsS : sS = ksem (snd p 3) := by exact rfl) (hsm : sm = ksem (rcv p 3) := by exact rfl)
    (hN : ((rbM p).slice (Rect.unit (s := Sh ![3584, wd p]) off₂ size inb₂) hr₂).view.amount sm = amt (rcv p 3) := by exact rfl)
    {hsc h₁ h₂ h₃} {k : PUnit → Prog (TpuEff nD τ sig (Elt F) Λ₀ .tc) A} :
    run X K c i j ⊢ iprop(outp p c fullShare (er p c false true false) (Av X p c) -∗ landFree p (nb p 1 c) 2560 512
        -∗ ((run X K c (i + 1) j ∗ late c (snd p 3)) -∗ runs c (k ⟨⟩) Q)
        -∗ runs c (.op (.enqueueDma (oM.slice (Rect.unit (s := Sh ![4096, 1024]) off₁ size inb₁) hr₁)
            (.remote (Dev.tc e : Thread nD τ) ((rbM p).slice (Rect.unit (s := Sh ![3584, wd p]) off₂ size inb₂) hr₂) sS hsc) sm h₁ h₂ h₃) k) Q) :=
  send_sum X K c p 3 1 rfl 2560 true false (Av X p c)
    (by show iprop(land X p (nb p 1 c) 2560 512 ∗ outp p (nb p 1 (nb p 1 c)) fullShare (er p (nb p 1 c) false false false) (Av X p (nb p 1 (nb p 1 c)))) = _
        rw [nb_nb, er_nb1]; rfl) rfl
    (fun a b ha => by
      unfold Rb
      rw [if_neg (by omega), if_neg (by omega), if_neg (by omega), if_pos (by omega), nb_nb, er_nb1, Nat.add_sub_cancel_left, Nat.zero_add]; rfl)
    ho₁ ho₂ he hs hi hh hw hsS hsm hN

theorem send_S2 {Q : A → sProp 𝕄}
    {inb₁ : ∀ a, off₁ a + size a ≤ (![4096, 1024] : Fin 2 → ℕ) a} {inb₂ : ∀ a, off₂ a + size a ≤ (![3584, wd p] : Fin 2 → ℕ) a}
    (ho₁ : off₁ = ![er p c false false true, cs p]) {hr₁ hr₂}
    {e : Dev nD} (he : e = nb p 2 c)
    (ho₂ : off₂ = ![3072, 0] := by exact rfl) (hs : sendAt i = (p, 4) := by exact rfl) (hi : 3 ≤ i ∧ i < 39 := by decide) (hh : size 0 = 512 := by exact rfl) (hw : size 1 = wd p := by exact rfl)
    {sS sm : SemLoc sig} (hsS : sS = ksem (snd p 4) := by exact rfl) (hsm : sm = ksem (rcv p 4) := by exact rfl)
    (hN : ((rbM p).slice (Rect.unit (s := Sh ![3584, wd p]) off₂ size inb₂) hr₂).view.amount sm = amt (rcv p 4) := by exact rfl)
    {hsc h₁ h₂ h₃} {k : PUnit → Prog (TpuEff nD τ sig (Elt F) Λ₀ .tc) A} :
    run X K c i j ⊢ iprop(outp p c fullShare (er p c false false true) (Bv X p c) -∗ landFree p (nb p 2 c) 3072 512
        -∗ ((run X K c (i + 1) j ∗ late c (snd p 4)) -∗ runs c (k ⟨⟩) Q)
        -∗ runs c (.op (.enqueueDma (oM.slice (Rect.unit (s := Sh ![4096, 1024]) off₁ size inb₁) hr₁)
            (.remote (Dev.tc e : Thread nD τ) ((rbM p).slice (Rect.unit (s := Sh ![3584, wd p]) off₂ size inb₂) hr₂) sS hsc) sm h₁ h₂ h₃) k) Q) :=
  send_sum X K c p 4 2 rfl 3072 false true (Bv X p c)
    (by show iprop(land X p (nb p 2 c) 3072 512 ∗ outp p (nb p 2 (nb p 2 c)) fullShare (er p (nb p 2 c) false false false) (Bv X p (nb p 2 (nb p 2 c)))) = _
        rw [nb_nb, er_nb2]; rfl) rfl
    (fun a b ha => by
      unfold Rb
      rw [if_neg (by omega), if_neg (by omega), if_neg (by omega), if_neg (by omega), nb_nb, er_nb2, Nat.add_sub_cancel_left, Nat.zero_add]; rfl)
    ho₁ ho₂ he hs hi hh hw hsS hsm hN

/-- The sends of an eighth of the results: to the same rows of the neighbour's output; the share comes back. -/
theorem send_out {Q : A → sProp 𝕄} (s : Fin 12) (k₀ : Fin 3) (q : PosShare TreeShare) (f g h : Bool) (hk₀ : dimOf s = k₀)
    (hsnd : sndPay X p s c = outp p c q (er p c f g h) (Rv X p))
    (hrcv : rcvPay X p s (nb p k₀ c) = outp p (nb p k₀ c) fullShare (er p c f g h) (Rv X p))
    {inb : ∀ a, off a + size a ≤ (![4096, 1024] : Fin 2 → ℕ) a}
    (ho : off = ![er p c f g h, cs p]) {hr₁ hr₂}
    {e : Dev nD} (he : e = nb p k₀ c)
    (hs : sendAt i = (p, s) := by exact rfl) (hi : 3 ≤ i ∧ i < 39 := by decide) (hh : size 0 = 512 := by exact rfl) (hw : size 1 = wd p := by exact rfl)
    {sS sm : SemLoc sig} (hsS : sS = ksem (snd p s) := by exact rfl) (hsm : sm = ksem (rcv p s) := by exact rfl)
    (hN : (oM.slice (Rect.unit (s := Sh ![4096, 1024]) off size inb) hr₂).view.amount sm = amt (rcv p s) := by
      first
        | exact rfl
        | exact Eq.trans (b := RefSig.tileCredit (Sh ![512, 384]) .bf16) rfl rfl
        | exact Eq.trans (b := RefSig.tileCredit (Sh ![512, 256]) .bf16) rfl rfl)
    {hsc h₁ h₂ h₃} {k : PUnit → Prog (TpuEff nD τ sig (Elt F) Λ₀ .tc) A} :
    run X K c i j ⊢ iprop(outp p c q (er p c f g h) (Rv X p) -∗ outFree p (nb p k₀ c) (er p c f g h)
        -∗ ((run X K c (i + 1) j ∗ late c (snd p s)) -∗ runs c (k ⟨⟩) Q)
        -∗ runs c (.op (.enqueueDma (oM.slice (Rect.unit (s := Sh ![4096, 1024]) off size inb) hr₁)
            (.remote (Dev.tc e : Thread nD τ) (oM.slice (Rect.unit (s := Sh ![4096, 1024]) off size inb) hr₂) sS hsc) sm h₁ h₂ h₃) k) Q) := by
  subst hk₀
  refine send_step X K c p s oM oM hs hi ho ho hh hw (Rv X p) he hsS hsm hN (.inl ⟨Entails.of_eq hsnd.symm, ?_⟩)
  rw [hrcv]
  refine Entails.of_eq (held_congr oM _ fullShare fun a b h1 h2 h3 h4 => ?_)
  unfold moved
  rw [Nat.sub_add_cancel h1, Nat.sub_add_cancel h3]

end Sends

theorem rcv_out5 (p : Fin 3) : rcvPay X p 5 (nb p 2 c) = outp p (nb p 2 c) fullShare (er p c false false false) (Rv X p) := by
  show outp p _ fullShare (er p (nb p 2 c) false false true) _ = _; rw [er_nb2]; rfl
theorem rcv_out6 (p : Fin 3) : rcvPay X p 6 (nb p 1 c) = outp p (nb p 1 c) fullShare (er p c false false false) (Rv X p) := by
  show outp p _ fullShare (er p (nb p 1 c) false true false) _ = _; rw [er_nb1]; rfl
theorem rcv_out7 (p : Fin 3) : rcvPay X p 7 (nb p 1 c) = outp p (nb p 1 c) fullShare (er p c false false true) (Rv X p) := by
  show outp p _ fullShare (er p (nb p 1 c) false true true) _ = _; rw [er_nb1]; rfl
theorem rcv_out8 (p : Fin 3) : rcvPay X p 8 (nb p 0 c) = outp p (nb p 0 c) fullShare (er p c false false false) (Rv X p) := by
  show outp p _ fullShare (er p (nb p 0 c) true false false) _ = _; rw [er_nb0]; rfl
theorem rcv_out9 (p : Fin 3) : rcvPay X p 9 (nb p 0 c) = outp p (nb p 0 c) fullShare (er p c false false true) (Rv X p) := by
  show outp p _ fullShare (er p (nb p 0 c) true false true) _ = _; rw [er_nb0]; rfl
theorem rcv_out10 (p : Fin 3) : rcvPay X p 10 (nb p 0 c) = outp p (nb p 0 c) fullShare (er p c false true false) (Rv X p) := by
  show outp p _ fullShare (er p (nb p 0 c) true true false) _ = _; rw [er_nb0]; rfl
theorem rcv_out11 (p : Fin 3) : rcvPay X p 11 (nb p 0 c) = outp p (nb p 0 c) fullShare (er p c false true true) (Rv X p) := by
  show outp p _ fullShare (er p (nb p 0 c) true true true) _ = _; rw [er_nb0]; rfl

end Moves

end Cert.AllReduce
-- ==== Proof.First.lean ====
/-
The run, from the local copies to the sums of two devices.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Parts

variable (X : Dev nD → ℕ → ℕ → Elt F .f32) (K : Dev nD × Cx → ℕ) (c : Dev nD)
variable (h0 : xM.IsWhole) (h1 : oM.IsWhole) (h2 : vM.IsWhole) (h3 : (stM 0).IsWhole) (h4 : (stM 1).IsWhole) (h5 : (stM 2).IsWhole)
  (h6 : (rbM 0).IsWhole) (h7 : (rbM 1).IsWhole) (h8 : (rbM 2).IsWhole)

/-- The first four local copies are started. -/
theorem part2 (v4 v6 v7 v10 v20 v28 v30 v32 v33 : BitVec 32)
    {Q : (Σ' (_ : BitVec 32), BitVec 32) → sProp 𝕄} :
    run X K c 0 0 ⊢ iprop(kit X 1 0 c -∗ kit X 0 0 c -∗ kit X 2 0 c -∗ kit X 1 1 c -∗
      (∀ r, (run X K c 0 0 ∗ late c (cp 1 0) ∗ late c (cp 0 0) ∗ late c (cp 2 0) ∗ late c (cp 1 1)) -∗ Q r)
      -∗ runs c (k0_part2 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v4 v6 v7 v10 v20 v28 v30 v32 v33) Q) := by
  rw [k0_part2_eq_skeleton]; unfold k0_part2_skel
  simp only [Prog.lift, Prog.bind_op, Prog.bind_ret, Prog.pure_eq_ret]
  iintro Hr K10 K00 K20 K11 Hk
  iapply (copy_step X K c 1 0 (off1 c)) $$ Hr K10; iintro ⟨Hr, C10⟩
  iapply (copy_step X K c 0 0 (off2 c)) $$ Hr K00; iintro ⟨Hr, C00⟩
  iapply (copy_step X K c 2 0 (off3 c)) $$ Hr K20; iintro ⟨Hr, C20⟩
  iapply (copy_step X K c 1 1 (off4 c)) $$ Hr K11; iintro ⟨Hr, C11⟩
  iapply runs_ret
  iapply Hk
  iframe Hr C10 C00 C20
  iexact C11

/-- The other local copies are started, and two neighbours are told that this device's buffers may be written. -/
theorem part3 (v2 v6 v30 : BitVec 32)
    {Q : (Σ' (_ : Sems sig S_), BitVec 32) → sProp 𝕄} :
    run X K c 0 0 ⊢ iprop(kit X 0 1 c -∗ kit X 2 1 c -∗ kit X 2 2 c -∗ kit X 0 2 c -∗ kit X 1 2 c -∗ barPay (flip 0 c) 0 -∗
      barPay (flip 1 c) 1 -∗
      (∀ r, ⌜r.1.sem = barS⌝ -∗
        (run X K c 2 0 ∗ late c (cp 0 1) ∗ late c (cp 2 1) ∗ late c (cp 2 2) ∗ late c (cp 0 2) ∗
        late c (cp 1 2)) -∗ Q r)
      -∗ runs c (k0_part3 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v30) Q) := by
  rw [k0_part3_eq_skeleton]; unfold k0_part3_skel
  simp only [semSignalWord, Prog.lift, Prog.bind_op, Prog.bind_ret, Prog.pure_eq_ret]
  iintro Hr K01 K21 K22 K02 K12 M0 M1 Hk
  iapply (copy_step X K c 0 1 (off5 c)) $$ Hr K01; iintro ⟨Hr, C01⟩
  iapply (copy_step X K c 2 1 (off6 c)) $$ Hr K21; iintro ⟨Hr, C21⟩
  iapply (copy_step X K c 2 2 (off7 c)) $$ Hr K22; iintro ⟨Hr, C22⟩
  iapply (copy_step X K c 0 2 (off8 c)) $$ Hr K02; iintro ⟨Hr, C02⟩
  iapply (copy_step X K c 1 2 (off9 c)) $$ Hr K12; iintro ⟨Hr, C12⟩
  iapply (signal_step X K c 0 (by exact rfl) (dev1 c) rfl (by exact rfl)) $$ Hr M0; iintro Hr
  iapply (signal_step X K c 1 (by exact rfl) (dev2 c) rfl (by exact rfl)) $$ Hr M1; iintro Hr
  iapply runs_ret
  iapply Hk $$ []
  · ipureintro; exact rfl
  iframe Hr C01 C21 C22 C02
  iexact C12

/-- The third neighbour is told, the three neighbours' word is waited for, and the middle columns' first quarter is sent. -/
theorem part4 (v2 v4 v7 v10 v20 c4_i32_57 : BitVec 32) (v89 : Sems sig S_)
    (hb : v89.sem = barS)
    {Q : (Σ' (_ : BitVec 32), BitVec 32) → sProp 𝕄} :
    run X K c 2 0 ⊢ iprop(barPay (flip 2 c) 2 -∗ late c (cp 1 0) -∗ free (stM 1) c 0 1024 0 (wd 1) -∗
      (∀ r, (run X K c 4 2 ∗ room 0 c ∗ rest 1 c ∗ room 2 c ∗ held vM c fullShare (qr 1 c true true) 1024 (cs 1) (wd 1) (X c) ∗
        late c (snd 1 0)) -∗ Q r)
      -∗ runs c (k0_part4 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v7 v10 v20 v89 c4_i32_57) Q) := by
  rw [k0_part4_eq_skeleton]; unfold k0_part4_skel
  simp only [semSignalWord, semWaitWord, Prog.lift, Prog.bind_op, Prog.bind_ret, Prog.pure_eq_ret]
  iintro Hr M2 C10 F10 Hk
  iapply (signal_step X K c 2 (by exact rfl) (dev3 c) hb (by exact rfl)) $$ Hr M2; iintro Hr
  iapply (wait_bar X K c rfl (by decide) (by decide) hb (by exact rfl)) $$ Hr; iintro ⟨Hr, Gb⟩
  ihave Gb := (bar_split X c) $$ Gb; icases Gb with ⟨Z0, ⟨D10, Z1⟩, Z2⟩
  iapply (wait_cp X K c 1 0 (R := held vM c fullShare (qr 1 c true true) 1024 (cs 1) (wd 1) (X c)) rfl) $$ Hr C10; iintro ⟨Hr, Y10⟩
  iapply (load_whole c vM (off10 c)) $$ Y10; iintro Y10
  iapply (load_free c (stM 1) rfl) $$ F10; iintro F10
  iapply (store_free c (stM 1) rfl (St X 1 c) (by exact fun x => (pay1_at _ x).trans (st_fst X 1 c _ (x 0).isLt).symm)) $$ F10; iintro G10
  iapply (send_quarter X K c 1 0 0 rfl (dev4 c)) $$ Hr G10 D10; iintro ⟨Hr, S10⟩
  iapply runs_ret
  iapply Hk
  iframe Hr Z0 Z1 Z2 Y10
  iexact S10

/-- The left columns' first quarter is sent, the right columns' is put in place. -/
theorem part5 (v2 v6 v30 v123 : BitVec 32)
    {Q : (Σ' (_ : BitVec 32), BitVec 32) → sProp 𝕄} :
    run X K c 4 2 ⊢ iprop(late c (cp 0 0) -∗ free (stM 0) c 0 1024 0 (wd 0) -∗ landFree 0 (nb 0 0 c) 0 1024 -∗ late c (cp 2 0) -∗
      free (stM 2) c 0 1024 0 (wd 2) -∗
      (∀ r, (run X K c 5 4 ∗ held vM c fullShare (qr 0 c true true) 1024 (cs 0) (wd 0) (X c) ∗ late c (snd 0 0) ∗
        held vM c fullShare (qr 2 c true true) 1024 (cs 2) (wd 2) (X c) ∗ held (stM 2) c fullShare 0 1024 0 (wd 2) (St X 2 c)) -∗ Q r)
      -∗ runs c (k0_part5 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v30 v123) Q) := by
  rw [k0_part5_eq_skeleton]; unfold k0_part5_skel
  simp only [Prog.lift, Prog.bind_op, Prog.bind_ret, Prog.pure_eq_ret]
  iintro Hr C00 F00 D00 C20 F20 Hk
  iapply (wait_cp X K c 0 0 (R := held vM c fullShare (qr 0 c true true) 1024 (cs 0) (wd 0) (X c)) rfl) $$ Hr C00; iintro ⟨Hr, Y00⟩
  iapply (load_whole c vM (off11 c)) $$ Y00; iintro Y00
  iapply (load_free c (stM 0) rfl) $$ F00; iintro F00
  iapply (store_free c (stM 0) rfl (St X 0 c) (by exact fun x => (pay2_at _ x).trans (st_fst X 0 c _ (x 0).isLt).symm)) $$ F00; iintro G00
  iapply (send_quarter X K c 0 0 0 rfl (dev5 c)) $$ Hr G00 D00; iintro ⟨Hr, S00⟩
  iapply (wait_cp X K c 2 0 (R := held vM c fullShare (qr 2 c true true) 1024 (cs 2) (wd 2) (X c)) rfl) $$ Hr C20; iintro ⟨Hr, Y20⟩
  iapply (load_whole c vM (off12 c)) $$ Y20; iintro Y20
  iapply (load_free c (stM 2) rfl) $$ F20; iintro F20
  iapply (store_free c (stM 2) rfl (St X 2 c) (by exact fun x => (pay3_at _ x).trans (st_fst X 2 c _ (x 0).isLt).symm)) $$ F20; iintro G20
  iapply runs_ret
  iapply Hk
  iframe Hr Y00 S00 Y20
  iexact G20

/-- The right columns' first quarter and the middle columns' second are sent. -/
theorem part6 (v2 v4 v7 v10 v20 v156 : BitVec 32)
    {Q : (Σ' (_ : BitVec 32), BitVec 32) → sProp 𝕄} :
    run X K c 5 4 ⊢ iprop(held (stM 2) c fullShare 0 1024 0 (wd 2) (St X 2 c) -∗ landFree 2 (nb 2 0 c) 0 1024 -∗ late c (cp 1 1) -∗
      free (stM 1) c 1024 1024 0 (wd 1) -∗ landFree 1 (nb 1 0 c) 1024 1024 -∗
      (∀ r, (run X K c 7 5 ∗ late c (snd 2 0) ∗ held vM c fullShare (qr 1 c true false) 1024 (cs 1) (wd 1) (X c) ∗ late c (snd 1 1)) -∗ Q r)
      -∗ runs c (k0_part6 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v7 v10 v20 v156) Q) := by
  rw [k0_part6_eq_skeleton]; unfold k0_part6_skel
  simp only [Prog.lift, Prog.bind_op, Prog.bind_ret, Prog.pure_eq_ret]
  iintro Hr G20 D20 C11 F11 D11 Hk
  iapply (send_quarter X K c 2 0 0 rfl (dev6 c)) $$ Hr G20 D20; iintro ⟨Hr, S20⟩
  iapply (wait_cp X K c 1 1 (R := held vM c fullShare (qr 1 c true false) 1024 (cs 1) (wd 1) (X c)) rfl) $$ Hr C11; iintro ⟨Hr, Y11⟩
  iapply (load_whole c vM (off13 c)) $$ Y11; iintro Y11
  iapply (load_free c (stM 1) rfl) $$ F11; iintro F11
  iapply (store_free c (stM 1) rfl (St X 1 c) (by exact fun x => (pay4_at _ x).trans (st_snd X 1 c _ _).symm)) $$ F11; iintro G11
  iapply (send_quarter X K c 1 1 1 rfl (dev7 c)) $$ Hr G11 D11; iintro ⟨Hr, S11⟩
  iapply runs_ret
  iapply Hk
  iframe Hr S20 Y11
  iexact S11

/-- The left columns' second quarter is sent, the right columns' is put in place. -/
theorem part7 (v2 v6 v30 v187 : BitVec 32)
    {Q : (Σ' (_ : BitVec 32), BitVec 32) → sProp 𝕄} :
    run X K c 7 5 ⊢ iprop(late c (cp 0 1) -∗ free (stM 0) c 1024 1024 0 (wd 0) -∗ landFree 0 (nb 0 0 c) 1024 1024 -∗ late c (cp 2 1) -∗
      free (stM 2) c 1024 1024 0 (wd 2) -∗
      (∀ r, (run X K c 8 7 ∗ held vM c fullShare (qr 0 c true false) 1024 (cs 0) (wd 0) (X c) ∗ late c (snd 0 1) ∗
        held vM c fullShare (qr 2 c true false) 1024 (cs 2) (wd 2) (X c) ∗ held (stM 2) c fullShare 1024 1024 0 (wd 2) (St X 2 c)) -∗ Q r)
      -∗ runs c (k0_part7 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v30 v187) Q) := by
  rw [k0_part7_eq_skeleton]; unfold k0_part7_skel
  simp only [Prog.lift, Prog.bind_op, Prog.bind_ret, Prog.pure_eq_ret]
  iintro Hr C01 F01 D01 C21 F21 Hk
  iapply (wait_cp X K c 0 1 (R := held vM c fullShare (qr 0 c true false) 1024 (cs 0) (wd 0) (X c)) rfl) $$ Hr C01; iintro ⟨Hr, Y01⟩
  iapply (load_whole c vM (off14 c)) $$ Y01; iintro Y01
  iapply (load_free c (stM 0) rfl) $$ F01; iintro F01
  iapply (store_free c (stM 0) rfl (St X 0 c) (by exact fun x => (pay5_at _ x).trans (st_snd X 0 c _ _).symm)) $$ F01; iintro G01
  iapply (send_quarter X K c 0 1 1 rfl (dev8 c)) $$ Hr G01 D01; iintro ⟨Hr, S01⟩
  iapply (wait_cp X K c 2 1 (R := held vM c fullShare (qr 2 c true false) 1024 (cs 2) (wd 2) (X c)) rfl) $$ Hr C21; iintro ⟨Hr, Y21⟩
  iapply (load_whole c vM (off15 c)) $$ Y21; iintro Y21
  iapply (load_free c (stM 2) rfl) $$ F21; iintro F21
  iapply (store_free c (stM 2) rfl (St X 2 c) (by exact fun x => (pay6_at _ x).trans (st_snd X 2 c _ _).symm)) $$ F21; iintro G21
  iapply runs_ret
  iapply Hk
  iframe Hr Y01 S01 Y21
  iexact G21

/-- The right columns' second quarter is sent; their first has arrived, and the sums of two devices are formed. -/
theorem part8 (v35 v156 v219 : BitVec 32)
    {Q : (FVec F S1024x256 .bf16) → sProp 𝕄} :
    run X K c 8 7 ⊢ iprop(held (stM 2) c fullShare 1024 1024 0 (wd 2) (St X 2 c) -∗ landFree 2 (nb 2 0 c) 1024 1024 -∗
      late c (snd 2 0) -∗ late c (cp 2 2) -∗
      (∀ r, ⌜∀ x : S1024x256.Idx, r x = Av X 2 c (qr 2 c false true + (x 0).val) (cs 2 + (x 1).val)⌝ -∗
        (run X K c 9 10 ∗
        late c (snd 2 1) ∗ held (stM 2) c fullShare 0 1024 0 (wd 2) (St X 2 c) ∗
        held vM c fullShare (hr 2 c false) 2048 (cs 2) (wd 2) (X c) ∗ land X 2 c 0 1024) -∗ Q r)
      -∗ runs c (k0_part8 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v35 v156 v219) Q) := by
  rw [k0_part8_eq_skeleton]; unfold k0_part8_skel
  simp only [Prog.lift, Prog.bind_op, Prog.bind_ret, Prog.pure_eq_ret]
  iintro Hr G21 D21 S20 C22 Hk
  iapply (send_quarter X K c 2 1 1 rfl (dev9 c)) $$ Hr G21 D21; iintro ⟨Hr, S21⟩
  iapply (wait_snd X K c 2 0 (R := held (stM 2) c fullShare 0 1024 0 (wd 2) (St X 2 c)) rfl) $$ Hr S20; iintro ⟨Hr, G20⟩
  iapply (wait_arr X K c 2 0 (R := land X 2 c 0 1024) rfl) $$ Hr; iintro ⟨Hr, L20⟩
  iapply (wait_cp X K c 2 2 (R := held vM c fullShare (hr 2 c false) 2048 (cs 2) (wd 2) (X c)) rfl) $$ Hr C22; iintro ⟨Hr, Y22⟩
  iapply (load_rows c vM (off16 c) (sub_q 2 c)) $$ Y22; iintro Y22
  iapply (load_whole c (rbM 2) rfl) $$ L20; iintro L20
  iapply runs_ret
  iapply Hk $$ []
  · ipureintro; exact fun x => sum_fst X 2 c _ (x 0).isLt
  iframe Hr S21 G20 Y22
  iexact L20

/-- The right columns' sums of two are stored and their two eighths sent. -/
theorem part9 (v2 v4 v35 : BitVec 32) (v246 : FVec F S1024x256 .bf16)
    (hv : ∀ x : S1024x256.Idx, v246 x = Av X 2 c (qr 2 c false true + (x 0).val) (cs 2 + (x 1).val))
    {Q : (Σ' (_ : BitVec 32), BitVec 32) → sProp 𝕄} :
    run X K c 9 10 ⊢ iprop(free oM c (qr 2 c false true) 1024 (cs 2) (wd 2) -∗ landFree 2 (nb 2 1 c) 2048 512 -∗
      landFree 2 (nb 2 1 c) 2560 512 -∗ late c (snd 0 0) -∗
      (∀ r, (run X K c 11 11 ∗ late c (snd 2 2) ∗ late c (snd 2 3) ∗ held (stM 0) c fullShare 0 1024 0 (wd 0) (St X 0 c)) -∗ Q r)
      -∗ runs c (k0_part9 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v35 v246) Q) := by
  rw [k0_part9_eq_skeleton]; unfold k0_part9_skel
  simp only [Prog.lift, Prog.bind_op, Prog.bind_ret, Prog.pure_eq_ret]
  iintro Hr Oq2 D22 D23 S00 Hk
  iapply (load_free c oM (off16 c)) $$ Oq2; iintro Oq2
  iapply (store_free c oM (off16 c) (Av X 2 c) (by exact hv)) $$ Oq2; iintro Oq2
  ihave Oq2 := (quarter oM c fullShare 2 c false true _ _ _).1 $$ Oq2; icases Oq2 with ⟨A2f, A2t⟩
  iapply (send_S1A X K c 2 (off17 c) (dev10 c)) $$ Hr A2t D22; iintro ⟨Hr, S22⟩
  iapply (send_S1B X K c 2 (off18 c) (dev11 c)) $$ Hr A2f D23; iintro ⟨Hr, S23⟩
  iapply (wait_snd X K c 0 0 (R := held (stM 0) c fullShare 0 1024 0 (wd 0) (St X 0 c)) rfl) $$ Hr S00; iintro ⟨Hr, G00⟩
  iapply runs_ret
  iapply Hk
  iframe Hr S22 S23
  iexact G00

/-- The left columns' sums of two are formed and stored, one eighth is sent. -/
theorem part10 (v2 v7 v15 v134 : BitVec 32)
    {Q : (BitVec 32) → sProp 𝕄} :
    run X K c 11 11 ⊢ iprop(late c (cp 0 2) -∗ free oM c (qr 0 c false true) 1024 (cs 0) (wd 0) -∗ landFree 0 (nb 0 1 c) 2048 512 -∗
      (∀ r, (run X K c 12 13 ∗ held vM c fullShare (hr 0 c false) 2048 (cs 0) (wd 0) (X c) ∗ land X 0 c 0 1024 ∗
        outp 0 c fullShare (er 0 c false true false) (Av X 0 c) ∗ late c (snd 0 2)) -∗ Q r)
      -∗ runs c (k0_part10 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v7 v15 v134) Q) := by
  rw [k0_part10_eq_skeleton]; unfold k0_part10_skel
  simp only [Prog.lift, Prog.bind_op, Prog.bind_ret, Prog.pure_eq_ret]
  iintro Hr C02 Oq0 D02 Hk
  iapply (wait_arr X K c 0 0 (R := land X 0 c 0 1024) rfl) $$ Hr; iintro ⟨Hr, L00⟩
  iapply (wait_cp X K c 0 2 (R := held vM c fullShare (hr 0 c false) 2048 (cs 0) (wd 0) (X c)) rfl) $$ Hr C02; iintro ⟨Hr, Y02⟩
  iapply (load_rows c vM (off19 c) (sub_q 0 c)) $$ Y02; iintro Y02
  iapply (load_whole c (rbM 0) rfl) $$ L00; iintro L00
  iapply (load_free c oM (off19 c)) $$ Oq0; iintro Oq0
  iapply (store_free c oM (off19 c) (Av X 0 c) (by exact fun x => sum_fst X 0 c _ (x 0).isLt)) $$ Oq0; iintro Oq0
  ihave Oq0 := (quarter oM c fullShare 0 c false true _ _ _).1 $$ Oq0; icases Oq0 with ⟨A0f, A0t⟩
  iapply (send_S1A X K c 0 (off20 c) (dev12 c)) $$ Hr A0t D02; iintro ⟨Hr, S02⟩
  iapply runs_ret
  iapply Hk
  iframe Hr Y02 L00 A0f
  iexact S02

/-- The left columns' other eighth is sent; the middle columns' terms are fetched. -/
theorem part11 (v2 v25 v112 : BitVec 32)
    {Q : (Σ' (_ : BitVec 32) (_ : FVec F S1024x384 .bf16), Vec F S1024x384 .bf16) → sProp 𝕄} :
    run X K c 12 13 ⊢ iprop(outp 0 c fullShare (er 0 c false true false) (Av X 0 c) -∗ landFree 0 (nb 0 1 c) 2560 512 -∗
      late c (snd 1 0) -∗ late c (cp 1 2) -∗
      (∀ r, ⌜∀ x : S1024x384.Idx, k0_pay10 r.2.1 r.2.2 x = Av X 1 c (qr 1 c false true + (x 0).val) (cs 1 + (x 1).val)⌝ -∗
        (
        run X K c 13 16 ∗ late c (snd 0 3) ∗ held (stM 1) c fullShare 0 1024 0 (wd 1) (St X 1 c) ∗
        held vM c fullShare (hr 1 c false) 2048 (cs 1) (wd 1) (X c) ∗ land X 1 c 0 1024) -∗ Q r)
      -∗ runs c (k0_part11 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v25 v112) Q) := by
  rw [k0_part11_eq_skeleton]; unfold k0_part11_skel
  simp only [Prog.lift, Prog.bind_op, Prog.bind_ret, Prog.pure_eq_ret]
  iintro Hr A0f D03 S10 C12 Hk
  iapply (send_S1B X K c 0 (off21 c) (dev13 c)) $$ Hr A0f D03; iintro ⟨Hr, S03⟩
  iapply (wait_snd X K c 1 0 (R := held (stM 1) c fullShare 0 1024 0 (wd 1) (St X 1 c)) rfl) $$ Hr S10; iintro ⟨Hr, G10⟩
  iapply (wait_arr X K c 1 0 (R := land X 1 c 0 1024) rfl) $$ Hr; iintro ⟨Hr, L10⟩
  iapply (wait_cp X K c 1 2 (R := held vM c fullShare (hr 1 c false) 2048 (cs 1) (wd 1) (X c)) rfl) $$ Hr C12; iintro ⟨Hr, Y12⟩
  iapply (load_rows c vM (off22 c) (sub_q 1 c)) $$ Y12; iintro Y12
  iapply (load_whole c (rbM 1) rfl) $$ L10; iintro L10
  iapply runs_ret
  iapply Hk $$ []
  · ipureintro; exact fun x => sum_fst X 1 c _ (x 0).isLt
  iframe Hr S03 G10 Y12
  iexact L10

/-- The middle columns' sums of two are stored and their two eighths sent. -/
theorem part12 (v2 v6 v25 : BitVec 32) (v332 : FVec F S1024x384 .bf16) (v333 : Vec F S1024x384 .bf16)
    (hv : ∀ x : S1024x384.Idx, k0_pay10 v332 v333 x = Av X 1 c (qr 1 c false true + (x 0).val) (cs 1 + (x 1).val))
    {Q : (Σ' (_ : BitVec 32), BitVec 32) → sProp 𝕄} :
    run X K c 13 16 ⊢ iprop(free oM c (qr 1 c false true) 1024 (cs 1) (wd 1) -∗ landFree 1 (nb 1 1 c) 2048 512 -∗
      landFree 1 (nb 1 1 c) 2560 512 -∗
      (∀ r, (run X K c 15 16 ∗ late c (snd 1 2) ∗ late c (snd 1 3)) -∗ Q r)
      -∗ runs c (k0_part12 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v25 v332 v333) Q) := by
  rw [k0_part12_eq_skeleton]; unfold k0_part12_skel
  simp only [Prog.lift, Prog.bind_op, Prog.bind_ret, Prog.pure_eq_ret]
  iintro Hr Oq1 D12 D13 Hk
  iapply (load_free c oM (off22 c)) $$ Oq1; iintro Oq1
  iapply (store_free c oM (off22 c) (Av X 1 c) (by exact hv)) $$ Oq1; iintro Oq1
  ihave Oq1 := (quarter oM c fullShare 1 c false true _ _ _).1 $$ Oq1; icases Oq1 with ⟨A1f, A1t⟩
  iapply (send_S1A X K c 1 (off23 c) (dev14 c)) $$ Hr A1t D12; iintro ⟨Hr, S12⟩
  iapply (send_S1B X K c 1 (off24 c) (dev15 c)) $$ Hr A1f D13; iintro ⟨Hr, S13⟩
  iapply runs_ret
  iapply Hk
  iframe Hr S12
  iexact S13

end Parts

end Cert.AllReduce
-- ==== Proof.Second.lean ====
/-
The run, from the sums of two devices to each device's own eighth of the results.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Parts

variable (X : Dev nD → ℕ → ℕ → Elt F .f32) (K : Dev nD × Cx → ℕ) (c : Dev nD)
variable (h0 : xM.IsWhole) (h1 : oM.IsWhole) (h2 : vM.IsWhole) (h3 : (stM 0).IsWhole) (h4 : (stM 1).IsWhole) (h5 : (stM 2).IsWhole)
  (h6 : (rbM 0).IsWhole) (h7 : (rbM 1).IsWhole) (h8 : (rbM 2).IsWhole)

/-- The right columns' second quarter and first eighth of sums have arrived; the first two terms are added. -/
theorem part13 (v4 v32 v219 v254 : BitVec 32)
    {Q : (Σ' (_ : BitVec 32), FVec F S512x256 .bf16) → sProp 𝕄} :
    run X K c 15 16 ⊢ iprop(late c (snd 2 1) -∗ late c (snd 2 2) -∗ held vM c fullShare (hr 2 c false) 2048 (cs 2) (wd 2) (X c) -∗
      (∀ r, ⌜∀ x : S512x256.Idx, r.2 x = FloatOps.addf (Yv X c (er 2 c false false true + (x 0).val) (cs 2 + (x 1).val))
          (Rb X 2 c (1024 + 512 * fl true (bt 2 2 c) + (x 0).val) (0 + (x 1).val))⌝ -∗
        (
        run X K c 15 20 ∗ held (stM 2) c fullShare 1024 1024 0 (wd 2) (St X 2 c) ∗ land X 2 c 2048 512 ∗
        outFree 2 (nb 2 1 c) (er 2 c false false true) ∗ held vM c fullShare (hr 2 c false) 2048 (cs 2) (wd 2) (X c) ∗
        land X 2 c 1024 1024) -∗ Q r)
      -∗ runs c (k0_part13 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v4 v32 v219 v254) Q) := by
  rw [k0_part13_eq_skeleton]; unfold k0_part13_skel
  simp only [Prog.lift, Prog.bind_op, Prog.bind_ret, Prog.pure_eq_ret]
  iintro Hr S21 S22 Y22 Hk
  iapply (wait_snd X K c 2 1 (R := held (stM 2) c fullShare 1024 1024 0 (wd 2) (St X 2 c)) rfl) $$ Hr S21; iintro ⟨Hr, G21⟩
  iapply (wait_arr X K c 2 1 (R := land X 2 c 1024 1024) rfl) $$ Hr; iintro ⟨Hr, L21⟩
  iapply (wait_snd X K c 2 2 (R := iprop(emp)) rfl) $$ Hr S22; iintro ⟨Hr, -⟩
  iapply (wait_arr X K c 2 2 (R := iprop(land X 2 c 2048 512 ∗ outp 2 (nb 2 1 c) fullShare (er 2 c false false true) (Av X 2 (nb 2 1 c)))) rfl) $$ Hr; iintro ⟨Hr, P⟩
  icases P with ⟨L22, E27⟩
  ihave E27 := (held_free oM _ _ 512 _ _ _) $$ E27
  iapply (load_rows c vM (off25 c) (sub_e 2 c true)) $$ Y22; iintro Y22
  iapply (load_rows c (rbM 2) (off26 c) (sub_l 2 c true)) $$ L21; iintro L21
  iapply runs_ret
  iapply Hk $$ []
  · ipureintro; exact fun _ => rfl
  iframe Hr G21 L22 E27 Y22
  iexact L21

/-- The right columns' sums of four are stored and sent; the left columns' second quarter has arrived. -/
theorem part14 (v2 v198 v382 : BitVec 32) (v391 : FVec F S512x256 .bf16)
    (hv : ∀ x : S512x256.Idx, v391 x = FloatOps.addf (Yv X c (er 2 c false false true + (x 0).val) (cs 2 + (x 1).val))
          (Rb X 2 c (1024 + 512 * fl true (bt 2 2 c) + (x 0).val) (0 + (x 1).val)))
    {Q : (BitVec 32) → sProp 𝕄} :
    run X K c 15 20 ⊢ iprop(land X 2 c 2048 512 -∗ outFree 2 c (er 2 c false false true) -∗ landFree 2 (nb 2 2 c) 3072 512 -∗
      late c (snd 0 1) -∗
      (∀ r, (run X K c 16 22 ∗ land X 2 c 2048 512 ∗ late c (snd 2 4) ∗ held (stM 0) c fullShare 1024 1024 0 (wd 0) (St X 0 c) ∗
        land X 0 c 1024 1024) -∗ Q r)
      -∗ runs c (k0_part14 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v198 v382 v391) Q) := by
  rw [k0_part14_eq_skeleton]; unfold k0_part14_skel
  simp only [Prog.lift, Prog.bind_op, Prog.bind_ret, Prog.pure_eq_ret]
  iintro Hr L22 Ot2 D24 S01 Hk
  iapply (load_whole c (rbM 2) rfl) $$ L22; iintro L22
  iapply (load_free c oM (off25 c)) $$ Ot2; iintro Ot2
  iapply (store_free c oM (off25 c) (Bv X 2 c) (by exact fun x => (congrArg (fun y => FloatOps.addf y _) (hv x)).trans (sum_snd X 2 c _ (x 0).isLt))) $$ Ot2; iintro B2
  iapply (send_S2 X K c 2 (off27 c) (dev16 c)) $$ Hr B2 D24; iintro ⟨Hr, S24⟩
  iapply (wait_snd X K c 0 1 (R := held (stM 0) c fullShare 1024 1024 0 (wd 0) (St X 0 c)) rfl) $$ Hr S01; iintro ⟨Hr, G01⟩
  iapply (wait_arr X K c 0 1 (R := land X 0 c 1024 1024) rfl) $$ Hr; iintro ⟨Hr, L01⟩
  iapply runs_ret
  iapply Hk
  iframe Hr L22 S24 G01
  iexact L01

/-- The left columns' sums of four are formed and stored. -/
theorem part15 (v2 v7 v12 v298 : BitVec 32)
    {Q : (BitVec 32) → sProp 𝕄} :
    run X K c 16 22 ⊢ iprop(late c (snd 0 2) -∗ held vM c fullShare (hr 0 c false) 2048 (cs 0) (wd 0) (X c) -∗ land X 0 c 1024 1024 -∗
      outFree 0 c (er 0 c false false true) -∗
      (∀ r, (run X K c 16 24 ∗ outFree 0 (nb 0 1 c) (er 0 c false false true) ∗
        held vM c fullShare (hr 0 c false) 2048 (cs 0) (wd 0) (X c) ∗ land X 0 c 1024 1024 ∗ land X 0 c 2048 512 ∗
        outp 0 c fullShare (er 0 c false false true) (Bv X 0 c)) -∗ Q r)
      -∗ runs c (k0_part15 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v7 v12 v298) Q) := by
  rw [k0_part15_eq_skeleton]; unfold k0_part15_skel
  simp only [Prog.lift, Prog.bind_op, Prog.bind_ret, Prog.pure_eq_ret]
  iintro Hr S02 Y02 L01 Ot0 Hk
  iapply (wait_snd X K c 0 2 (R := iprop(emp)) rfl) $$ Hr S02; iintro ⟨Hr, -⟩
  iapply (wait_arr X K c 0 2 (R := iprop(land X 0 c 2048 512 ∗ outp 0 (nb 0 1 c) fullShare (er 0 c false false true) (Av X 0 (nb 0 1 c)))) rfl) $$ Hr; iintro ⟨Hr, P⟩
  icases P with ⟨L02, E07⟩
  ihave E07 := (held_free oM _ _ 512 _ _ _) $$ E07
  iapply (load_rows c vM (off28 c) (sub_e 0 c true)) $$ Y02; iintro Y02
  iapply (load_rows c (rbM 0) (off29 c) (sub_l 0 c true)) $$ L01; iintro L01
  iapply (load_whole c (rbM 0) rfl) $$ L02; iintro L02
  iapply (load_free c oM (off28 c)) $$ Ot0; iintro Ot0
  iapply (store_free c oM (off28 c) (Bv X 0 c) (by exact fun x => sum_snd X 0 c _ (x 0).isLt)) $$ Ot0; iintro B0
  iapply runs_ret
  iapply Hk
  iframe Hr E07 Y02 L01 L02
  iexact B0

/-- The left columns' sums of four are sent; the middle columns' terms have arrived. -/
theorem part16 (v6 v22 v177 v342 : BitVec 32)
    {Q : (BitVec 32) → sProp 𝕄} :
    run X K c 16 24 ⊢ iprop(outp 0 c fullShare (er 0 c false false true) (Bv X 0 c) -∗ landFree 0 (nb 0 2 c) 3072 512 -∗
      late c (snd 1 1) -∗ late c (snd 1 2) -∗
      (∀ r, (run X K c 17 28 ∗ late c (snd 0 4) ∗ held (stM 1) c fullShare 1024 1024 0 (wd 1) (St X 1 c) ∗ land X 1 c 1024 1024 ∗
        land X 1 c 2048 512 ∗ outFree 1 (nb 1 1 c) (er 1 c false false true)) -∗ Q r)
      -∗ runs c (k0_part16 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v6 v22 v177 v342) Q) := by
  rw [k0_part16_eq_skeleton]; unfold k0_part16_skel
  simp only [Prog.lift, Prog.bind_op, Prog.bind_ret, Prog.pure_eq_ret]
  iintro Hr B0 D04 S11 S12 Hk
  iapply (send_S2 X K c 0 (off30 c) (dev17 c)) $$ Hr B0 D04; iintro ⟨Hr, S04⟩
  iapply (wait_snd X K c 1 1 (R := held (stM 1) c fullShare 1024 1024 0 (wd 1) (St X 1 c)) rfl) $$ Hr S11; iintro ⟨Hr, G11⟩
  iapply (wait_arr X K c 1 1 (R := land X 1 c 1024 1024) rfl) $$ Hr; iintro ⟨Hr, L11⟩
  iapply (wait_snd X K c 1 2 (R := iprop(emp)) rfl) $$ Hr S12; iintro ⟨Hr, -⟩
  iapply (wait_arr X K c 1 2 (R := iprop(land X 1 c 2048 512 ∗ outp 1 (nb 1 1 c) fullShare (er 1 c false false true) (Av X 1 (nb 1 1 c)))) rfl) $$ Hr; iintro ⟨Hr, P⟩
  icases P with ⟨L12, E17⟩
  ihave E17 := (held_free oM _ _ 512 _ _ _) $$ E17
  iapply runs_ret
  iapply Hk
  iframe Hr S04 G11 L11 L12
  iexact E17

/-- The middle columns' sums of four are formed, stored and sent. -/
theorem part17 (v2 v6 v263 v472 : BitVec 32)
    {Q : (BitVec 32) → sProp 𝕄} :
    run X K c 17 28 ⊢ iprop(held vM c fullShare (hr 1 c false) 2048 (cs 1) (wd 1) (X c) -∗ land X 1 c 1024 1024 -∗ land X 1 c 2048 512 -∗
      outFree 1 c (er 1 c false false true) -∗ landFree 1 (nb 1 2 c) 3072 512 -∗ late c (snd 2 3) -∗
      (∀ r, (run X K c 18 29 ∗ held vM c fullShare (hr 1 c false) 2048 (cs 1) (wd 1) (X c) ∗ land X 1 c 1024 1024 ∗ land X 1 c 2048 512 ∗
        late c (snd 1 4)) -∗ Q r)
      -∗ runs c (k0_part17 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v263 v472) Q) := by
  rw [k0_part17_eq_skeleton]; unfold k0_part17_skel
  simp only [Prog.lift, Prog.bind_op, Prog.bind_ret, Prog.pure_eq_ret]
  iintro Hr Y12 L11 L12 Ot1 D14 S23 Hk
  iapply (load_rows c vM (off31 c) (sub_e 1 c true)) $$ Y12; iintro Y12
  iapply (load_rows c (rbM 1) (off32 c) (sub_l 1 c true)) $$ L11; iintro L11
  iapply (load_whole c (rbM 1) rfl) $$ L12; iintro L12
  iapply (load_free c oM (off31 c)) $$ Ot1; iintro Ot1
  iapply (store_free c oM (off31 c) (Bv X 1 c) (by exact fun x => sum_snd X 1 c _ (x 0).isLt)) $$ Ot1; iintro B1
  iapply (send_S2 X K c 1 (off33 c) (dev18 c)) $$ Hr B1 D14; iintro ⟨Hr, S14⟩
  iapply (wait_snd X K c 2 3 (R := iprop(emp)) rfl) $$ Hr S23; iintro ⟨Hr, -⟩
  iapply runs_ret
  iapply Hk
  iframe Hr Y12 L11 L12
  iexact S14

/-- The right columns' last terms have arrived, and one eighth of the results is stored. -/
theorem part18 (v2 v4 v37 v396 : BitVec 32)
    {Q : (Σ' (_ : BitVec 32), BitVec 32) → sProp 𝕄} :
    run X K c 18 29 ⊢ iprop(late c (snd 2 4) -∗ held vM c fullShare (hr 2 c false) 2048 (cs 2) (wd 2) (X c) -∗ land X 2 c 1024 1024 -∗
      outFree 2 c (er 2 c false false false) -∗
      (∀ r, (run X K c 18 32 ∗ outFree 2 (nb 2 1 c) (er 2 c false false false) ∗ outFree 2 (nb 2 2 c) (er 2 c false false false) ∗
        held vM c fullShare (hr 2 c false) 2048 (cs 2) (wd 2) (X c) ∗ land X 2 c 1024 1024 ∗ land X 2 c 2560 512 ∗ land X 2 c 3072 512 ∗
        outp 2 c fullShare.left (er 2 c false false false) (Rv X 2) ∗ outp 2 c fullShare.right.left (er 2 c false false false) (Rv X 2) ∗
        outp 2 c fullShare.right.right (er 2 c false false false) (Rv X 2)) -∗ Q r)
      -∗ runs c (k0_part18 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v37 v396) Q) := by
  rw [k0_part18_eq_skeleton]; unfold k0_part18_skel
  simp only [Prog.lift, Prog.bind_op, Prog.bind_ret, Prog.pure_eq_ret]
  iintro Hr S24 Y22 L21 Of2 Hk
  iapply (wait_arr X K c 2 3 (R := iprop(land X 2 c 2560 512 ∗ outp 2 (nb 2 1 c) fullShare (er 2 c false false false) (Av X 2 (nb 2 1 c)))) rfl) $$ Hr; iintro ⟨Hr, P⟩
  icases P with ⟨L23, E26⟩
  ihave E26 := (held_free oM _ _ 512 _ _ _) $$ E26
  iapply (wait_snd X K c 2 4 (R := iprop(emp)) rfl) $$ Hr S24; iintro ⟨Hr, -⟩
  iapply (wait_arr X K c 2 4 (R := iprop(land X 2 c 3072 512 ∗ outp 2 (nb 2 2 c) fullShare (er 2 c false false false) (Bv X 2 (nb 2 2 c)))) rfl) $$ Hr; iintro ⟨Hr, P⟩
  icases P with ⟨L24, E25⟩
  ihave E25 := (held_free oM _ _ 512 _ _ _) $$ E25
  iapply (load_rows c vM (off34 c) (sub_e 2 c false)) $$ Y22; iintro Y22
  iapply (load_rows c (rbM 2) (off35 c) (sub_l 2 c false)) $$ L21; iintro L21
  iapply (load_whole c (rbM 2) rfl) $$ L23; iintro L23
  iapply (load_whole c (rbM 2) rfl) $$ L24; iintro L24
  iapply (load_free c oM (off34 c)) $$ Of2; iintro Of2
  iapply (store_free c oM (off34 c) (Rv X 2) (by exact fun x => sum_trd X 2 c _ (x 0).isLt)) $$ Of2; iintro Of2
  ihave Of2 := (thirds X 2 c _).1 $$ Of2; icases Of2 with ⟨Q25, Q26, Q28⟩
  iapply runs_ret
  iapply Hk
  iframe Hr E26 E25 Y22 L21 L23 L24 Q25 Q26
  iexact Q28

/-- The right columns' eighth of the results is sent to the three neighbours. -/
theorem part19 (v2 v307 v530 : BitVec 32)
    {Q : (Σ' (_ : BitVec 32) (_ : BitVec 32), BitVec 32) → sProp 𝕄} :
    run X K c 18 32 ⊢ iprop(outp 2 c fullShare.left (er 2 c false false false) (Rv X 2) -∗
      outFree 2 (nb 2 2 c) (er 2 c false false false) -∗ outp 2 c fullShare.right.left (er 2 c false false false) (Rv X 2) -∗
      outFree 2 (nb 2 1 c) (er 2 c false false false) -∗ outp 2 c fullShare.right.right (er 2 c false false false) (Rv X 2) -∗
      outFree 2 (nb 2 0 c) (er 2 c false false false) -∗ late c (snd 0 3) -∗
      (∀ r, (run X K c 21 33 ∗ late c (snd 2 5) ∗ late c (snd 2 6) ∗ late c (snd 2 8)) -∗ Q r)
      -∗ runs c (k0_part19 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v307 v530) Q) := by
  rw [k0_part19_eq_skeleton]; unfold k0_part19_skel
  simp only [Prog.lift, Prog.bind_op, Prog.bind_ret, Prog.pure_eq_ret]
  iintro Hr Q25 E25 Q26 E26 Q28 E28 S03 Hk
  iapply (send_out X K c 2 5 2 fullShare.left false false false rfl rfl (rcv_out5 X c 2) (off36 c) (dev19 c)) $$ Hr Q25 E25; iintro ⟨Hr, S25⟩
  iapply (send_out X K c 2 6 1 fullShare.right.left false false false rfl rfl (rcv_out6 X c 2) (off36 c) (dev20 c)) $$ Hr Q26 E26; iintro ⟨Hr, S26⟩
  iapply (send_out X K c 2 8 0 fullShare.right.right false false false rfl rfl (rcv_out8 X c 2) (off36 c) (dev21 c)) $$ Hr Q28 E28; iintro ⟨Hr, S28⟩
  iapply (wait_snd X K c 0 3 (R := iprop(emp)) rfl) $$ Hr S03; iintro ⟨Hr, -⟩
  iapply runs_ret
  iapply Hk
  iframe Hr S25 S26
  iexact S28

/-- The left columns' last terms have arrived, and one eighth of the results is stored. -/
theorem part20 (v7 v17 v441 v560 : BitVec 32)
    {Q : (BitVec 32) → sProp 𝕄} :
    run X K c 21 33 ⊢ iprop(late c (snd 0 4) -∗ held vM c fullShare (hr 0 c false) 2048 (cs 0) (wd 0) (X c) -∗ land X 0 c 1024 1024 -∗
      outFree 0 c (er 0 c false false false) -∗
      (∀ r, (run X K c 21 36 ∗ outFree 0 (nb 0 1 c) (er 0 c false false false) ∗ outFree 0 (nb 0 2 c) (er 0 c false false false) ∗
        held vM c fullShare (hr 0 c false) 2048 (cs 0) (wd 0) (X c) ∗ land X 0 c 1024 1024 ∗ land X 0 c 2560 512 ∗ land X 0 c 3072 512 ∗
        outp 0 c fullShare.left (er 0 c false false false) (Rv X 0) ∗ outp 0 c fullShare.right.left (er 0 c false false false) (Rv X 0) ∗
        outp 0 c fullShare.right.right (er 0 c false false false) (Rv X 0)) -∗ Q r)
      -∗ runs c (k0_part20 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v7 v17 v441 v560) Q) := by
  rw [k0_part20_eq_skeleton]; unfold k0_part20_skel
  simp only [Prog.lift, Prog.bind_op, Prog.bind_ret, Prog.pure_eq_ret]
  iintro Hr S04 Y02 L01 Of0 Hk
  iapply (wait_arr X K c 0 3 (R := iprop(land X 0 c 2560 512 ∗ outp 0 (nb 0 1 c) fullShare (er 0 c false false false) (Av X 0 (nb 0 1 c)))) rfl) $$ Hr; iintro ⟨Hr, P⟩
  icases P with ⟨L03, E06⟩
  ihave E06 := (held_free oM _ _ 512 _ _ _) $$ E06
  iapply (wait_snd X K c 0 4 (R := iprop(emp)) rfl) $$ Hr S04; iintro ⟨Hr, -⟩
  iapply (wait_arr X K c 0 4 (R := iprop(land X 0 c 3072 512 ∗ outp 0 (nb 0 2 c) fullShare (er 0 c false false false) (Bv X 0 (nb 0 2 c)))) rfl) $$ Hr; iintro ⟨Hr, P⟩
  icases P with ⟨L04, E05⟩
  ihave E05 := (held_free oM _ _ 512 _ _ _) $$ E05
  iapply (load_rows c vM (off37 c) (sub_e 0 c false)) $$ Y02; iintro Y02
  iapply (load_rows c (rbM 0) (off38 c) (sub_l 0 c false)) $$ L01; iintro L01
  iapply (load_whole c (rbM 0) rfl) $$ L03; iintro L03
  iapply (load_whole c (rbM 0) rfl) $$ L04; iintro L04
  iapply (load_free c oM (off37 c)) $$ Of0; iintro Of0
  iapply (store_free c oM (off37 c) (Rv X 0) (by exact fun x => sum_trd X 0 c _ (x 0).isLt)) $$ Of0; iintro Of0
  ihave Of0 := (thirds X 0 c _).1 $$ Of0; icases Of0 with ⟨Q05, Q06, Q08⟩
  iapply runs_ret
  iapply Hk
  iframe Hr E06 E05 Y02 L01 L03 L04 Q05 Q06
  iexact Q08

/-- The left columns' eighth of the results is sent to the three neighbours. -/
theorem part21 (v2 c4_i32_504 : BitVec 32)
    {Q : (Σ' (_ : BitVec 32) (_ : BitVec 32), BitVec 32) → sProp 𝕄} :
    run X K c 21 36 ⊢ iprop(outp 0 c fullShare.left (er 0 c false false false) (Rv X 0) -∗
      outFree 0 (nb 0 2 c) (er 0 c false false false) -∗ outp 0 c fullShare.right.left (er 0 c false false false) (Rv X 0) -∗
      outFree 0 (nb 0 1 c) (er 0 c false false false) -∗ outp 0 c fullShare.right.right (er 0 c false false false) (Rv X 0) -∗
      outFree 0 (nb 0 0 c) (er 0 c false false false) -∗
      (∀ r, (run X K c 24 36 ∗ late c (snd 0 5) ∗ late c (snd 0 6) ∗ late c (snd 0 8)) -∗ Q r)
      -∗ runs c (k0_part21 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 c4_i32_504) Q) := by
  rw [k0_part21_eq_skeleton]; unfold k0_part21_skel
  simp only [Prog.lift, Prog.bind_op, Prog.bind_ret, Prog.pure_eq_ret]
  iintro Hr Q05 E05 Q06 E06 Q08 E08 Hk
  iapply (send_out X K c 0 5 2 fullShare.left false false false rfl rfl (rcv_out5 X c 0) (off39 c) (dev22 c)) $$ Hr Q05 E05; iintro ⟨Hr, S05⟩
  iapply (send_out X K c 0 6 1 fullShare.right.left false false false rfl rfl (rcv_out6 X c 0) (off39 c) (dev23 c)) $$ Hr Q06 E06; iintro ⟨Hr, S06⟩
  iapply (send_out X K c 0 8 0 fullShare.right.right false false false rfl rfl (rcv_out8 X c 0) (off39 c) (dev24 c)) $$ Hr Q08 E08; iintro ⟨Hr, S08⟩
  iapply runs_ret
  iapply Hk
  iframe Hr S05 S06
  iexact S08

/-- The middle columns' last terms have arrived, and one eighth of the results is formed. -/
theorem part22 (v6 v27 v351 v486 : BitVec 32)
    {Q : (FVec F S512x384 .bf16) → sProp 𝕄} :
    run X K c 24 36 ⊢ iprop(late c (snd 1 3) -∗ late c (snd 1 4) -∗ held vM c fullShare (hr 1 c false) 2048 (cs 1) (wd 1) (X c) -∗
      land X 1 c 1024 1024 -∗
      (∀ r, ⌜∀ x : S512x384.Idx, r x = Rv X 1 (er 1 c false false false + (x 0).val) (cs 1 + (x 1).val)⌝ -∗
        (run X K c 24 40 ∗
        outFree 1 (nb 1 1 c) (er 1 c false false false) ∗ outFree 1 (nb 1 2 c) (er 1 c false false false) ∗
        held vM c fullShare (hr 1 c false) 2048 (cs 1) (wd 1) (X c) ∗ land X 1 c 1024 1024 ∗ land X 1 c 2560 512 ∗ land X 1 c 3072 512) -∗ Q r)
      -∗ runs c (k0_part22 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v6 v27 v351 v486) Q) := by
  rw [k0_part22_eq_skeleton]; unfold k0_part22_skel
  simp only [Prog.lift, Prog.bind_op, Prog.bind_ret, Prog.pure_eq_ret]
  iintro Hr S13 S14 Y12 L11 Hk
  iapply (wait_snd X K c 1 3 (R := iprop(emp)) rfl) $$ Hr S13; iintro ⟨Hr, -⟩
  iapply (wait_arr X K c 1 3 (R := iprop(land X 1 c 2560 512 ∗ outp 1 (nb 1 1 c) fullShare (er 1 c false false false) (Av X 1 (nb 1 1 c)))) rfl) $$ Hr; iintro ⟨Hr, P⟩
  icases P with ⟨L13, E16⟩
  ihave E16 := (held_free oM _ _ 512 _ _ _) $$ E16
  iapply (wait_snd X K c 1 4 (R := iprop(emp)) rfl) $$ Hr S14; iintro ⟨Hr, -⟩
  iapply (wait_arr X K c 1 4 (R := iprop(land X 1 c 3072 512 ∗ outp 1 (nb 1 2 c) fullShare (er 1 c false false false) (Bv X 1 (nb 1 2 c)))) rfl) $$ Hr; iintro ⟨Hr, P⟩
  icases P with ⟨L14, E15⟩
  ihave E15 := (held_free oM _ _ 512 _ _ _) $$ E15
  iapply (load_rows c vM (off40 c) (sub_e 1 c false)) $$ Y12; iintro Y12
  iapply (load_rows c (rbM 1) (off41 c) (sub_l 1 c false)) $$ L11; iintro L11
  iapply (load_whole c (rbM 1) rfl) $$ L13; iintro L13
  iapply (load_whole c (rbM 1) rfl) $$ L14; iintro L14
  iapply runs_ret
  iapply Hk $$ []
  · ipureintro; exact fun x => sum_trd X 1 c _ (x 0).isLt
  iframe Hr E16 E15 Y12 L11 L13
  iexact L14

/-- The middle columns' eighth of the results is stored and sent to the three neighbours. -/
theorem part23 (v2 v27 : BitVec 32) (v648 : FVec F S512x384 .bf16)
    (hv : ∀ x : S512x384.Idx, v648 x = Rv X 1 (er 1 c false false false + (x 0).val) (cs 1 + (x 1).val))
    {Q : (Σ' (_ : BitVec 32) (_ : BitVec 32), BitVec 32) → sProp 𝕄} :
    run X K c 24 40 ⊢ iprop(outFree 1 c (er 1 c false false false) -∗ outFree 1 (nb 1 2 c) (er 1 c false false false) -∗
      outFree 1 (nb 1 1 c) (er 1 c false false false) -∗ outFree 1 (nb 1 0 c) (er 1 c false false false) -∗
      (∀ r, (run X K c 27 40 ∗ late c (snd 1 5) ∗ late c (snd 1 6) ∗ late c (snd 1 8)) -∗ Q r)
      -∗ runs c (k0_part23 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v27 v648) Q) := by
  rw [k0_part23_eq_skeleton]; unfold k0_part23_skel
  simp only [Prog.lift, Prog.bind_op, Prog.bind_ret, Prog.pure_eq_ret]
  iintro Hr Of1 E15 E16 E18 Hk
  iapply (load_free c oM (off40 c)) $$ Of1; iintro Of1
  iapply (store_free c oM (off40 c) (Rv X 1) (by exact hv)) $$ Of1; iintro Of1
  ihave Of1 := (thirds X 1 c _).1 $$ Of1; icases Of1 with ⟨Q15, Q16, Q18⟩
  iapply (send_out X K c 1 5 2 fullShare.left false false false rfl rfl (rcv_out5 X c 1) (off42 c) (dev25 c)) $$ Hr Q15 E15; iintro ⟨Hr, S15⟩
  iapply (send_out X K c 1 6 1 fullShare.right.left false false false rfl rfl (rcv_out6 X c 1) (off42 c) (dev26 c)) $$ Hr Q16 E16; iintro ⟨Hr, S16⟩
  iapply (send_out X K c 1 8 0 fullShare.right.right false false false rfl rfl (rcv_out8 X c 1) (off42 c) (dev27 c)) $$ Hr Q18 E18; iintro ⟨Hr, S18⟩
  iapply runs_ret
  iapply Hk
  iframe Hr S15 S16
  iexact S18

end Parts

end Cert.AllReduce
-- ==== Proof.Third.lean ====
/-
The run, from the first eighth of the results to the last wait.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Parts

variable (X : Dev nD → ℕ → ℕ → Elt F .f32) (K : Dev nD × Cx → ℕ) (c : Dev nD)
variable (h0 : xM.IsWhole) (h1 : oM.IsWhole) (h2 : vM.IsWhole) (h3 : (stM 0).IsWhole) (h4 : (stM 1).IsWhole) (h5 : (stM 2).IsWhole)
  (h6 : (rbM 0).IsWhole) (h7 : (rbM 1).IsWhole) (h8 : (rbM 2).IsWhole)

/-- The second neighbour's eighth of the results in the right columns has arrived and is sent on. -/
theorem part24 (v2 v4 v32 v529 : BitVec 32)
    {Q : (Σ' (_ : BitVec 32), BitVec 32) → sProp 𝕄} :
    run X K c 27 40 ⊢ iprop(late c (snd 2 5) -∗ outFree 2 (nb 2 1 c) (er 2 c false false true) -∗
      outFree 2 (nb 2 0 c) (er 2 c false false true) -∗
      (∀ r, (run X K c 29 42 ∗ outp 2 c fullShare.left (er 2 c false false false) (Rv X 2) ∗ late c (snd 2 7) ∗ late c (snd 2 9)) -∗ Q r)
      -∗ runs c (k0_part24 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v32 v529) Q) := by
  rw [k0_part24_eq_skeleton]; unfold k0_part24_skel
  simp only [Prog.lift, Prog.bind_op, Prog.bind_ret, Prog.pure_eq_ret]
  iintro Hr S25 E27 E29 Hk
  iapply (wait_snd X K c 2 5 (R := outp 2 c fullShare.left (er 2 c false false false) (Rv X 2)) rfl) $$ Hr S25; iintro ⟨Hr, W25⟩
  iapply (wait_arr X K c 2 5 (R := outp 2 c fullShare (er 2 c false false true) (Rv X 2)) rfl) $$ Hr; iintro ⟨Hr, P⟩
  ihave P := (held_halves oM c fullShare _ _ _ _ _).1 $$ P; icases P with ⟨Q27, Q29⟩
  iapply (send_out X K c 2 7 1 fullShare.left false false true rfl rfl (rcv_out7 X c 2) (off27 c) (dev28 c)) $$ Hr Q27 E27; iintro ⟨Hr, S27⟩
  iapply (send_out X K c 2 9 0 fullShare.right false false true rfl rfl (rcv_out9 X c 2) (off27 c) (dev29 c)) $$ Hr Q29 E29; iintro ⟨Hr, S29⟩
  iapply runs_ret
  iapply Hk
  iframe Hr W25 S27
  iexact S29

/-- The second neighbour's eighth of the results in the left columns has arrived and is sent on. -/
theorem part25 (v2 v7 v12 v590 : BitVec 32)
    {Q : (Σ' (_ : BitVec 32), BitVec 32) → sProp 𝕄} :
    run X K c 29 42 ⊢ iprop(late c (snd 0 5) -∗ outFree 0 (nb 0 1 c) (er 0 c false false true) -∗
      outFree 0 (nb 0 0 c) (er 0 c false false true) -∗
      (∀ r, (run X K c 31 44 ∗ outp 0 c fullShare.left (er 0 c false false false) (Rv X 0) ∗ late c (snd 0 7) ∗ late c (snd 0 9)) -∗ Q r)
      -∗ runs c (k0_part25 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v7 v12 v590) Q) := by
  rw [k0_part25_eq_skeleton]; unfold k0_part25_skel
  simp only [Prog.lift, Prog.bind_op, Prog.bind_ret, Prog.pure_eq_ret]
  iintro Hr S05 E07 E09 Hk
  iapply (wait_snd X K c 0 5 (R := outp 0 c fullShare.left (er 0 c false false false) (Rv X 0)) rfl) $$ Hr S05; iintro ⟨Hr, W05⟩
  iapply (wait_arr X K c 0 5 (R := outp 0 c fullShare (er 0 c false false true) (Rv X 0)) rfl) $$ Hr; iintro ⟨Hr, P⟩
  ihave P := (held_halves oM c fullShare _ _ _ _ _).1 $$ P; icases P with ⟨Q07, Q09⟩
  iapply (send_out X K c 0 7 1 fullShare.left false false true rfl rfl (rcv_out7 X c 0) (off30 c) (dev30 c)) $$ Hr Q07 E07; iintro ⟨Hr, S07⟩
  iapply (send_out X K c 0 9 0 fullShare.right false false true rfl rfl (rcv_out9 X c 0) (off30 c) (dev31 c)) $$ Hr Q09 E09; iintro ⟨Hr, S09⟩
  iapply runs_ret
  iapply Hk
  iframe Hr W05 S07
  iexact S09

/-- The second neighbour's eighth of the results in the middle columns has arrived and is sent to one neighbour. -/
theorem part26 (v2 v6 v22 v651 : BitVec 32)
    {Q : (Σ' (_ : BitVec 32), BitVec 32) → sProp 𝕄} :
    run X K c 31 44 ⊢ iprop(late c (snd 1 5) -∗ outFree 1 (nb 1 1 c) (er 1 c false false true) -∗
      (∀ r, (run X K c 32 46 ∗ outp 1 c fullShare.left (er 1 c false false false) (Rv X 1) ∗
        outp 1 c fullShare.right (er 1 c false false true) (Rv X 1) ∗ late c (snd 1 7)) -∗ Q r)
      -∗ runs c (k0_part26 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v22 v651) Q) := by
  rw [k0_part26_eq_skeleton]; unfold k0_part26_skel
  simp only [Prog.lift, Prog.bind_op, Prog.bind_ret, Prog.pure_eq_ret]
  iintro Hr S15 E17 Hk
  iapply (wait_snd X K c 1 5 (R := outp 1 c fullShare.left (er 1 c false false false) (Rv X 1)) rfl) $$ Hr S15; iintro ⟨Hr, W15⟩
  iapply (wait_arr X K c 1 5 (R := outp 1 c fullShare (er 1 c false false true) (Rv X 1)) rfl) $$ Hr; iintro ⟨Hr, P⟩
  ihave P := (held_halves oM c fullShare _ _ _ _ _).1 $$ P; icases P with ⟨Q17, Q19⟩
  iapply (send_out X K c 1 7 1 fullShare.left false false true rfl rfl (rcv_out7 X c 1) (off33 c) (dev32 c)) $$ Hr Q17 E17; iintro ⟨Hr, S17⟩
  iapply runs_ret
  iapply Hk
  iframe Hr W15 Q19
  iexact S17

/-- It is sent to the other; a third eighth of the right columns has arrived and is sent on. -/
theorem part27 (v2 v4 v35 v538 v599 : BitVec 32)
    {Q : (BitVec 32) → sProp 𝕄} :
    run X K c 32 46 ⊢ iprop(outp 1 c fullShare.right (er 1 c false false true) (Rv X 1) -∗
      outFree 1 (nb 1 0 c) (er 1 c false false true) -∗ late c (snd 2 6) -∗ outFree 2 (nb 2 0 c) (er 2 c false true false) -∗
      late c (snd 0 6) -∗
      (∀ r, (run X K c 34 49 ∗ late c (snd 1 9) ∗ outp 2 c fullShare.right.left (er 2 c false false false) (Rv X 2) ∗ late c (snd 2 10) ∗
        outp 0 c fullShare.right.left (er 0 c false false false) (Rv X 0)) -∗ Q r)
      -∗ runs c (k0_part27 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v35 v538 v599) Q) := by
  rw [k0_part27_eq_skeleton]; unfold k0_part27_skel
  simp only [Prog.lift, Prog.bind_op, Prog.bind_ret, Prog.pure_eq_ret]
  iintro Hr Q19 E19 S26 E210 S06 Hk
  iapply (send_out X K c 1 9 0 fullShare.right false false true rfl rfl (rcv_out9 X c 1) (off33 c) (dev33 c)) $$ Hr Q19 E19; iintro ⟨Hr, S19⟩
  iapply (wait_snd X K c 2 6 (R := outp 2 c fullShare.right.left (er 2 c false false false) (Rv X 2)) rfl) $$ Hr S26; iintro ⟨Hr, W26⟩
  iapply (wait_arr X K c 2 6 (R := outp 2 c fullShare (er 2 c false true false) (Rv X 2)) rfl) $$ Hr; iintro ⟨Hr, R26⟩
  iapply (send_out X K c 2 10 0 fullShare false true false rfl rfl (rcv_out10 X c 2) (off18 c) (dev34 c)) $$ Hr R26 E210; iintro ⟨Hr, S210⟩
  iapply (wait_snd X K c 0 6 (R := outp 0 c fullShare.right.left (er 0 c false false false) (Rv X 0)) rfl) $$ Hr S06; iintro ⟨Hr, W06⟩
  iapply runs_ret
  iapply Hk
  iframe Hr S19 W26 S210
  iexact W06

/-- A third eighth of the left columns is sent on, and one of the middle columns has arrived. -/
theorem part28 (v2 v6 v7 v15 v25 v660 : BitVec 32)
    {Q : (Σ' (_ : BitVec 32) (_ : BitVec 32) (_ : BitVec 32), BitVec 32) → sProp 𝕄} :
    run X K c 34 49 ⊢ iprop(outFree 0 (nb 0 0 c) (er 0 c false true false) -∗ late c (snd 1 6) -∗
      (∀ r, (run X K c 35 52 ∗ late c (snd 0 10) ∗ outp 1 c fullShare.right.left (er 1 c false false false) (Rv X 1) ∗
        outp 1 c fullShare (er 1 c false true false) (Rv X 1)) -∗ Q r)
      -∗ runs c (k0_part28 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v7 v15 v25 v660) Q) := by
  rw [k0_part28_eq_skeleton]; unfold k0_part28_skel
  simp only [Prog.lift, Prog.bind_op, Prog.bind_ret, Prog.pure_eq_ret]
  iintro Hr E010 S16 Hk
  iapply (wait_arr X K c 0 6 (R := outp 0 c fullShare (er 0 c false true false) (Rv X 0)) rfl) $$ Hr; iintro ⟨Hr, R06⟩
  iapply (send_out X K c 0 10 0 fullShare false true false rfl rfl (rcv_out10 X c 0) (off21 c) (dev35 c)) $$ Hr R06 E010; iintro ⟨Hr, S010⟩
  iapply (wait_snd X K c 1 6 (R := outp 1 c fullShare.right.left (er 1 c false false false) (Rv X 1)) rfl) $$ Hr S16; iintro ⟨Hr, W16⟩
  iapply (wait_arr X K c 1 6 (R := outp 1 c fullShare (er 1 c false true false) (Rv X 1)) rfl) $$ Hr; iintro ⟨Hr, R16⟩
  iapply runs_ret
  iapply Hk
  iframe Hr S010 W16
  iexact R16

/-- The third eighth of the middle columns is sent on, and so is the last of the right columns. -/
theorem part29 (v2 v4 v35 v691 v826 c0_i32_714 : BitVec 32)
    {Q : (BitVec 32) → sProp 𝕄} :
    run X K c 35 52 ⊢ iprop(outp 1 c fullShare (er 1 c false true false) (Rv X 1) -∗ outFree 1 (nb 1 0 c) (er 1 c false true false) -∗
      late c (snd 2 7) -∗ outFree 2 (nb 2 0 c) (er 2 c false true true) -∗
      (∀ r, (run X K c 37 54 ∗ late c (snd 1 10) ∗ outp 2 c fullShare.left (er 2 c false false true) (Rv X 2) ∗ late c (snd 2 11)) -∗ Q r)
      -∗ runs c (k0_part29 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v4 v35 v691 v826 c0_i32_714) Q) := by
  rw [k0_part29_eq_skeleton]; unfold k0_part29_skel
  simp only [Prog.lift, Prog.bind_op, Prog.bind_ret, Prog.pure_eq_ret]
  iintro Hr R16 E110 S27 E211 Hk
  iapply (send_out X K c 1 10 0 fullShare false true false rfl rfl (rcv_out10 X c 1) (off24 c) (dev36 c)) $$ Hr R16 E110; iintro ⟨Hr, S110⟩
  iapply (wait_snd X K c 2 7 (R := outp 2 c fullShare.left (er 2 c false false true) (Rv X 2)) rfl) $$ Hr S27; iintro ⟨Hr, W27⟩
  iapply (wait_arr X K c 2 7 (R := outp 2 c fullShare (er 2 c false true true) (Rv X 2)) rfl) $$ Hr; iintro ⟨Hr, R27⟩
  iapply (send_out X K c 2 11 0 fullShare false true true rfl rfl (rcv_out11 X c 2) (off17 c) (dev37 c)) $$ Hr R27 E211; iintro ⟨Hr, S211⟩
  iapply runs_ret
  iapply Hk
  iframe Hr S110 W27
  iexact S211

/-- The last eighth of the left columns is sent on. -/
theorem part30 (v2 v7 v15 v722 v753 : BitVec 32)
    {Q : (BitVec 32) → sProp 𝕄} :
    run X K c 37 54 ⊢ iprop(late c (snd 0 7) -∗ outFree 0 (nb 0 0 c) (er 0 c false true true) -∗ late c (snd 1 7) -∗
      (∀ r, (run X K c 38 57 ∗ outp 0 c fullShare.left (er 0 c false false true) (Rv X 0) ∗ late c (snd 0 11) ∗
        outp 1 c fullShare.left (er 1 c false false true) (Rv X 1)) -∗ Q r)
      -∗ runs c (k0_part30 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v7 v15 v722 v753) Q) := by
  rw [k0_part30_eq_skeleton]; unfold k0_part30_skel
  simp only [Prog.lift, Prog.bind_op, Prog.bind_ret, Prog.pure_eq_ret]
  iintro Hr S07 E011 S17 Hk
  iapply (wait_snd X K c 0 7 (R := outp 0 c fullShare.left (er 0 c false false true) (Rv X 0)) rfl) $$ Hr S07; iintro ⟨Hr, W07⟩
  iapply (wait_arr X K c 0 7 (R := outp 0 c fullShare (er 0 c false true true) (Rv X 0)) rfl) $$ Hr; iintro ⟨Hr, R07⟩
  iapply (send_out X K c 0 11 0 fullShare false true true rfl rfl (rcv_out11 X c 0) (off20 c) (dev38 c)) $$ Hr R07 E011; iintro ⟨Hr, S011⟩
  iapply (wait_snd X K c 1 7 (R := outp 1 c fullShare.left (er 1 c false false true) (Rv X 1)) rfl) $$ Hr S17; iintro ⟨Hr, W17⟩
  iapply runs_ret
  iapply Hk
  iframe Hr W07 S011
  iexact W17

/-- The last eighth of the middle columns is sent on; the other half of the right columns begins to arrive. -/
theorem part31 (v2 v6 v25 v547 : BitVec 32)
    {Q : (BitVec 32) → sProp 𝕄} :
    run X K c 38 57 ⊢ iprop(outFree 1 (nb 1 0 c) (er 1 c false true true) -∗ late c (snd 2 8) -∗ late c (snd 2 9) -∗
      (∀ r, (run X K c 39 61 ∗ late c (snd 1 11) ∗ outp 2 c fullShare.right.right (er 2 c false false false) (Rv X 2) ∗
        outp 2 c fullShare (er 2 c true false false) (Rv X 2) ∗ outp 2 c fullShare.right (er 2 c false false true) (Rv X 2)) -∗ Q r)
      -∗ runs c (k0_part31 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v2 v6 v25 v547) Q) := by
  rw [k0_part31_eq_skeleton]; unfold k0_part31_skel
  simp only [Prog.lift, Prog.bind_op, Prog.bind_ret, Prog.pure_eq_ret]
  iintro Hr E111 S28 S29 Hk
  iapply (wait_arr X K c 1 7 (R := outp 1 c fullShare (er 1 c false true true) (Rv X 1)) rfl) $$ Hr; iintro ⟨Hr, R17⟩
  iapply (send_out X K c 1 11 0 fullShare false true true rfl rfl (rcv_out11 X c 1) (off23 c) (dev39 c)) $$ Hr R17 E111; iintro ⟨Hr, S111⟩
  iapply (wait_snd X K c 2 8 (R := outp 2 c fullShare.right.right (er 2 c false false false) (Rv X 2)) rfl) $$ Hr S28; iintro ⟨Hr, W28⟩
  iapply (wait_arr X K c 2 8 (R := outp 2 c fullShare (er 2 c true false false) (Rv X 2)) rfl) $$ Hr; iintro ⟨Hr, R28⟩
  iapply (wait_snd X K c 2 9 (R := outp 2 c fullShare.right (er 2 c false false true) (Rv X 2)) rfl) $$ Hr S29; iintro ⟨Hr, W29⟩
  iapply runs_ret
  iapply Hk
  iframe Hr S111 W28 R28
  iexact W29

/-- The other half of the right columns has arrived. -/
theorem part32 (v700 v783 v847 : BitVec 32)
    {Q : (PUnit) → sProp 𝕄} :
    run X K c 39 61 ⊢ iprop(late c (snd 2 10) -∗ late c (snd 2 11) -∗
      (∀ r, (run X K c 39 66 ∗ outp 2 c fullShare (er 2 c true false true) (Rv X 2) ∗
        outp 2 c fullShare (er 2 c false true false) (Rv X 2) ∗ outp 2 c fullShare (er 2 c true true false) (Rv X 2) ∗
        outp 2 c fullShare (er 2 c false true true) (Rv X 2) ∗ outp 2 c fullShare (er 2 c true true true) (Rv X 2)) -∗ Q r)
      -∗ runs c (k0_part32 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v700 v783 v847) Q) := by
  rw [k0_part32_eq_skeleton]; unfold k0_part32_skel
  simp only [Prog.lift, Prog.bind_op, Prog.bind_ret, Prog.pure_eq_ret]
  iintro Hr S210 S211 Hk
  iapply (wait_arr X K c 2 9 (R := outp 2 c fullShare (er 2 c true false true) (Rv X 2)) rfl) $$ Hr; iintro ⟨Hr, R29⟩
  iapply (wait_snd X K c 2 10 (R := outp 2 c fullShare (er 2 c false true false) (Rv X 2)) rfl) $$ Hr S210; iintro ⟨Hr, W210⟩
  iapply (wait_arr X K c 2 10 (R := outp 2 c fullShare (er 2 c true true false) (Rv X 2)) rfl) $$ Hr; iintro ⟨Hr, R210⟩
  iapply (wait_snd X K c 2 11 (R := outp 2 c fullShare (er 2 c false true true) (Rv X 2)) rfl) $$ Hr S211; iintro ⟨Hr, W211⟩
  iapply (wait_arr X K c 2 11 (R := outp 2 c fullShare (er 2 c true true true) (Rv X 2)) rfl) $$ Hr; iintro ⟨Hr, R211⟩
  iapply runs_ret
  iapply Hk
  iframe Hr R29 W210 R210 W211
  iexact R211

/-- The other half of the left columns arrives. -/
theorem part33 (v608 v731 v804 : BitVec 32)
    {Q : (PUnit) → sProp 𝕄} :
    run X K c 39 66 ⊢ iprop(late c (snd 0 8) -∗ late c (snd 0 9) -∗ late c (snd 0 10) -∗
      (∀ r, (run X K c 39 71 ∗ outp 0 c fullShare.right.right (er 0 c false false false) (Rv X 0) ∗
        outp 0 c fullShare (er 0 c true false false) (Rv X 0) ∗ outp 0 c fullShare.right (er 0 c false false true) (Rv X 0) ∗
        outp 0 c fullShare (er 0 c true false true) (Rv X 0) ∗ outp 0 c fullShare (er 0 c false true false) (Rv X 0)) -∗ Q r)
      -∗ runs c (k0_part33 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v608 v731 v804) Q) := by
  rw [k0_part33_eq_skeleton]; unfold k0_part33_skel
  simp only [Prog.lift, Prog.bind_op, Prog.bind_ret, Prog.pure_eq_ret]
  iintro Hr S08 S09 S010 Hk
  iapply (wait_snd X K c 0 8 (R := outp 0 c fullShare.right.right (er 0 c false false false) (Rv X 0)) rfl) $$ Hr S08; iintro ⟨Hr, W08⟩
  iapply (wait_arr X K c 0 8 (R := outp 0 c fullShare (er 0 c true false false) (Rv X 0)) rfl) $$ Hr; iintro ⟨Hr, R08⟩
  iapply (wait_snd X K c 0 9 (R := outp 0 c fullShare.right (er 0 c false false true) (Rv X 0)) rfl) $$ Hr S09; iintro ⟨Hr, W09⟩
  iapply (wait_arr X K c 0 9 (R := outp 0 c fullShare (er 0 c true false true) (Rv X 0)) rfl) $$ Hr; iintro ⟨Hr, R09⟩
  iapply (wait_snd X K c 0 10 (R := outp 0 c fullShare (er 0 c false true false) (Rv X 0)) rfl) $$ Hr S010; iintro ⟨Hr, W010⟩
  iapply runs_ret
  iapply Hk
  iframe Hr W08 R08 W09 R09
  iexact W010

/-- The other half of the left columns has arrived, and one eighth of the middle ones. -/
theorem part34 (v669 v869 : BitVec 32)
    {Q : (PUnit) → sProp 𝕄} :
    run X K c 39 71 ⊢ iprop(late c (snd 0 11) -∗ late c (snd 1 8) -∗
      (∀ r, (run X K c 39 76 ∗ outp 0 c fullShare (er 0 c true true false) (Rv X 0) ∗
        outp 0 c fullShare (er 0 c false true true) (Rv X 0) ∗ outp 0 c fullShare (er 0 c true true true) (Rv X 0) ∗
        outp 1 c fullShare.right.right (er 1 c false false false) (Rv X 1) ∗ outp 1 c fullShare (er 1 c true false false) (Rv X 1)) -∗ Q r)
      -∗ runs c (k0_part34 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v669 v869) Q) := by
  rw [k0_part34_eq_skeleton]; unfold k0_part34_skel
  simp only [Prog.lift, Prog.bind_op, Prog.bind_ret, Prog.pure_eq_ret]
  iintro Hr S011 S18 Hk
  iapply (wait_arr X K c 0 10 (R := outp 0 c fullShare (er 0 c true true false) (Rv X 0)) rfl) $$ Hr; iintro ⟨Hr, R010⟩
  iapply (wait_snd X K c 0 11 (R := outp 0 c fullShare (er 0 c false true true) (Rv X 0)) rfl) $$ Hr S011; iintro ⟨Hr, W011⟩
  iapply (wait_arr X K c 0 11 (R := outp 0 c fullShare (er 0 c true true true) (Rv X 0)) rfl) $$ Hr; iintro ⟨Hr, R011⟩
  iapply (wait_snd X K c 1 8 (R := outp 1 c fullShare.right.right (er 1 c false false false) (Rv X 1)) rfl) $$ Hr S18; iintro ⟨Hr, W18⟩
  iapply (wait_arr X K c 1 8 (R := outp 1 c fullShare (er 1 c true false false) (Rv X 1)) rfl) $$ Hr; iintro ⟨Hr, R18⟩
  iapply runs_ret
  iapply Hk
  iframe Hr R010 W011 R011 W18
  iexact R18

/-- The other half of the middle columns arrives. -/
theorem part35 (v762 v825 v891 : BitVec 32)
    {Q : (PUnit) → sProp 𝕄} :
    run X K c 39 76 ⊢ iprop(late c (snd 1 9) -∗ late c (snd 1 10) -∗ late c (snd 1 11) -∗
      (∀ r, (run X K c 39 81 ∗ outp 1 c fullShare.right (er 1 c false false true) (Rv X 1) ∗
        outp 1 c fullShare (er 1 c true false true) (Rv X 1) ∗ outp 1 c fullShare (er 1 c false true false) (Rv X 1) ∗
        outp 1 c fullShare (er 1 c true true false) (Rv X 1) ∗ outp 1 c fullShare (er 1 c false true true) (Rv X 1)) -∗ Q r)
      -∗ runs c (k0_part35 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13 c v762 v825 v891) Q) := by
  rw [k0_part35_eq_skeleton]; unfold k0_part35_skel
  simp only [Prog.lift, Prog.bind_op, Prog.bind_ret, Prog.pure_eq_ret]
  iintro Hr S19 S110 S111 Hk
  iapply (wait_snd X K c 1 9 (R := outp 1 c fullShare.right (er 1 c false false true) (Rv X 1)) rfl) $$ Hr S19; iintro ⟨Hr, W19⟩
  iapply (wait_arr X K c 1 9 (R := outp 1 c fullShare (er 1 c true false true) (Rv X 1)) rfl) $$ Hr; iintro ⟨Hr, R19⟩
  iapply (wait_snd X K c 1 10 (R := outp 1 c fullShare (er 1 c false true false) (Rv X 1)) rfl) $$ Hr S110; iintro ⟨Hr, W110⟩
  iapply (wait_arr X K c 1 10 (R := outp 1 c fullShare (er 1 c true true false) (Rv X 1)) rfl) $$ Hr; iintro ⟨Hr, R110⟩
  iapply (wait_snd X K c 1 11 (R := outp 1 c fullShare (er 1 c false true true) (Rv X 1)) rfl) $$ Hr S111; iintro ⟨Hr, W111⟩
  iapply runs_ret
  iapply Hk
  iframe Hr W19 R19 W110 R110
  iexact W111

end Parts

end Cert.AllReduce
-- ==== Proof.Pieces.lean ====
/-
How the buffers are cut up before the run and put together after it: columns into the three parts, rows into halves,
quarters and eighths.
-/
module

public import proofs.«01_k».proof.Proof.Moves
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Pieces

variable (X : Dev nD → ℕ → ℕ → Elt F .f32)

/-! ## Cutting a block -/

theorem free_open {sp : Space} {sz : Fin 2 → ℕ} {e : EltTy} (M : Memref sig .tc sp (Sh sz) e) (d : Dev nD) (r h c w : ℕ) :
    free (F := F) M d r h c w ⊢ iprop(∃ φ, held M d fullShare r h c w φ) := .rfl

section Cut
variable {sp : Space} {sz : Fin 2 → ℕ} {e : EltTy} (M : Memref sig .tc sp (Sh sz) e) (d : Dev nD) (q : PosShare TreeShare)

/-- The columns are those of the three parts. -/
theorem parts3 (r h : ℕ) (φ : ℕ → ℕ → Elt F e) :
    (held M d q r h 0 1024 φ : sProp 𝕄)
      ⊣⊢ iprop(held M d q r h (cs 0) (wd 0) φ ∗ held M d q r h (cs 1) (wd 1) φ ∗ held M d q r h (cs 2) (wd 2) φ) :=
  (held_cols (F := F) M d q r h 0 384 640 φ).trans (sep_congr_right (held_cols (F := F) M d q r h 384 384 256 φ))

/-- Twice as many rows are the ones at a coordinate and the ones at the other. -/
theorem pair (r n b : ℕ) (hb : b ≤ 1) (c w : ℕ) (φ : ℕ → ℕ → Elt F e) :
    (held M d q r (n + n) c w φ : sProp 𝕄)
      ⊣⊢ iprop(held M d q (r + n * fl false b) n c w φ ∗ held M d q (r + n * fl true b) n c w φ) := by
  have h := held_rows (F := F) M d q r n n c w φ
  rcases (show b = 0 ∨ b = 1 by omega) with rfl | rfl
  · show _ ⊣⊢ iprop(held M d q (r + n * 0) n c w φ ∗ held M d q (r + n * 1) n c w φ)
    rw [Nat.mul_zero, Nat.mul_one]; exact h
  · show _ ⊣⊢ iprop(held M d q (r + n * 1) n c w φ ∗ held M d q (r + n * 0) n c w φ)
    rw [Nat.mul_zero, Nat.mul_one]; exact h.trans (sep_comm (PROP := sProp 𝕄))

theorem halfs (p : Fin 3) (d' : Dev nD) (c w : ℕ) (φ : ℕ → ℕ → Elt F e) :
    (held M d q 0 4096 c w φ : sProp 𝕄) ⊣⊢ iprop(held M d q (hr p d' false) 2048 c w φ ∗ held M d q (hr p d' true) 2048 c w φ) := by
  have h := pair (F := F) M d q 0 2048 (bt p 0 d') (bt_le ..) c w φ
  rw [Nat.zero_add, Nat.zero_add] at h; exact h

theorem quarts (p : Fin 3) (d' : Dev nD) (f : Bool) (c w : ℕ) (φ : ℕ → ℕ → Elt F e) :
    (held M d q (hr p d' f) 2048 c w φ : sProp 𝕄) ⊣⊢ iprop(held M d q (qr p d' f false) 1024 c w φ ∗ held M d q (qr p d' f true) 1024 c w φ) :=
  pair (F := F) M d q (hr p d' f) 1024 (bt p 1 d') (bt_le ..) c w φ

/-- The blocks of the three local copies of a part. -/
theorem three (p : Fin 3) (d' : Dev nD) (c w : ℕ) (φ : ℕ → ℕ → Elt F e) :
    (held M d q 0 4096 c w φ : sProp 𝕄)
      ⊣⊢ iprop(held M d q (cpRow p 2 d') (cpLen 2) c w φ ∗ held M d q (cpRow p 1 d') (cpLen 1) c w φ ∗ held M d q (cpRow p 0 d') (cpLen 0) c w φ) :=
  (halfs (F := F) M d q p d' c w φ).trans (sep_congr_right (quarts (F := F) M d q p d' true c w φ))

end Cut

variable (c : Dev nD)

/-- An output block of one part, whole, from its eighths; the device's own and its neighbour's, where the sends split the
    shares, come in shares. -/
theorem out_join (p : Fin 3) :
    iprop((outp p c fullShare.left (er p c false false false) (Rv X p) ∗ outp p c fullShare.right.left (er p c false false false) (Rv X p)
          ∗ outp p c fullShare.right.right (er p c false false false) (Rv X p))
        ∗ (outp p c fullShare.left (er p c false false true) (Rv X p) ∗ outp p c fullShare.right (er p c false false true) (Rv X p))
        ∗ (outp p c fullShare (er p c false true false) (Rv X p) ∗ outp p c fullShare (er p c false true true) (Rv X p))
        ∗ (outp p c fullShare (er p c true false false) (Rv X p) ∗ outp p c fullShare (er p c true false true) (Rv X p))
        ∗ (outp p c fullShare (er p c true true false) (Rv X p) ∗ outp p c fullShare (er p c true true true) (Rv X p)))
      ⊢ held oM c fullShare 0 4096 (cs p) (wd p) (Rv X p) := by
  iintro ⟨A, B, C, D, E⟩
  ihave A := (thirds X p c _).2 $$ A
  ihave B := (held_halves oM c fullShare _ 512 _ _ _).2 $$ B
  ihave C := (quarter oM c fullShare p c false true _ _ _).2 $$ C
  ihave D := (quarter oM c fullShare p c true false _ _ _).2 $$ D
  ihave E := (quarter oM c fullShare p c true true _ _ _).2 $$ E
  ihave A := (quarter oM c fullShare p c false false _ _ _).2 $$ [A B]
  · iframe A; iexact B
  iapply (halfs oM c fullShare p c _ _ _).2
  isplitl [A C]
  · iapply (quarts oM c fullShare p c false _ _ _).2; iframe A; iexact C
  · iapply (quarts oM c fullShare p c true _ _ _).2; iframe D; iexact E

/-- What a device holds of a part's output, landing and staging buffers, cut into what it hands the three neighbours and
    what it keeps. -/
theorem own_pieces (p : Fin 3) :
    iprop(free (F := F) oM c 0 4096 (cs p) (wd p) ∗ free (rbM p) c 0 3584 0 (wd p) ∗ free (stM p) c 0 2048 0 (wd p))
      ⊢ iprop((give p 0 c ∗ give p 1 c ∗ give p 2 c) ∗ (free oM c (qr p c false true) 1024 (cs p) (wd p)
          ∗ outFree p c (er p c false false true) ∗ outFree p c (er p c false false false)) ∗ free (stM p) c 0 1024 0 (wd p) ∗ free (stM p) c 1024 1024 0 (wd p)) := by
  iintro ⟨H, G, S⟩
  ihave H := (free_open _ _ _ _ _ _) $$ H; icases H with ⟨%φ, H⟩
  ihave G := (free_open _ _ _ _ _ _) $$ G; icases G with ⟨%ψ, G⟩
  ihave S := (free_open _ _ _ _ _ _) $$ S; icases S with ⟨%χ, S⟩
  ihave H := (halfs oM c fullShare p c _ _ _).1 $$ H; icases H with ⟨Hf, Ht⟩
  ihave H := (quarts oM c fullShare p c false _ _ _).1 $$ Hf; icases H with ⟨Hff, Hft⟩
  ihave H := (quarts oM c fullShare p c true _ _ _).1 $$ Ht; icases H with ⟨Htf, Htt⟩
  ihave H := (quarter oM c fullShare p c false false _ _ _).1 $$ Hff; icases H with ⟨H0, H1⟩
  ihave H := (quarter oM c fullShare p c true false _ _ _).1 $$ Htf; icases H with ⟨H4, H5⟩
  ihave H := (quarter oM c fullShare p c true true _ _ _).1 $$ Htt; icases H with ⟨H6, H7⟩
  ihave G := (held_rows (rbM p) c fullShare 0 1024 2560 _ _ _).1 $$ G; icases G with ⟨G0, G⟩
  ihave G := (held_rows (rbM p) c fullShare 1024 1024 1536 _ _ _).1 $$ G; icases G with ⟨G1, G⟩
  ihave G := (held_rows (rbM p) c fullShare 2048 512 1024 _ _ _).1 $$ G; icases G with ⟨G2, G⟩
  ihave G := (held_rows (rbM p) c fullShare 2560 512 512 _ _ _).1 $$ G; icases G with ⟨G3, G4⟩
  ihave S := (held_rows (stM p) c fullShare 0 1024 1024 _ _ _).1 $$ S; icases S with ⟨S0, S1⟩
  unfold give
  isplitl [H4 H5 H6 H7 G0 G1 G2 G3 G4]
  · isplitl [H4 H5 H6 H7 G0 G1]
    · isplitl [G0]; · iapply held_free; iexact G0
      isplitl [G1]; · iapply held_free; iexact G1
      isplitl [H4]; · iapply held_free; iexact H4
      isplitl [H5]; · iapply held_free; iexact H5
      isplitl [H6]; · iapply held_free; iexact H6
      iapply held_free; iexact H7
    isplitl [G2 G3]
    · isplitl [G2]; · iapply held_free; iexact G2
      iapply held_free; iexact G3
    iapply held_free; iexact G4
  isplitl [Hft H1 H0]
  · isplitl [Hft]; · iapply held_free; iexact Hft
    isplitl [H1]; · iapply held_free; iexact H1
    iapply held_free; iexact H0
  isplitl [S0]; · iapply held_free; iexact S0
  iapply held_free; iexact S1

/-- The landing buffer of a part after the run, and its staging buffer. -/
theorem land_join (p : Fin 3) :
    iprop(land X p c 0 1024 ∗ land X p c 1024 1024 ∗ land X p c 2048 512 ∗ land X p c 2560 512 ∗ land X p c 3072 512)
      ⊢ free (rbM p) c 0 3584 0 (wd p) := by
  iintro ⟨A, B, C, D, E⟩
  iapply held_free
  iapply (held_rows (rbM p) c fullShare 0 1024 2560 _ _ _).2; iframe A
  iapply (held_rows (rbM p) c fullShare 1024 1024 1536 _ _ _).2; iframe B
  iapply (held_rows (rbM p) c fullShare 2048 512 1024 _ _ _).2; iframe C
  iapply (held_rows (rbM p) c fullShare 2560 512 512 _ _ _).2; iframe D
  iexact E
theorem stage_join (p : Fin 3) :
    iprop(held (stM p) c fullShare 0 1024 0 (wd p) (St X p c) ∗ held (stM p) c fullShare 1024 1024 0 (wd p) (St X p c))
      ⊢ free (stM p) c 0 2048 0 (wd p) := by
  iintro H
  iapply held_free
  iapply (held_rows (stM p) c fullShare 0 1024 1024 _ _ _).2
  iexact H

/-- The device's copy of the argument after the run, one part. -/
theorem copy_join (p : Fin 3) :
    iprop(held vM c fullShare (hr p c false) 2048 (cs p) (wd p) (X c) ∗ held vM c fullShare (qr p c true false) 1024 (cs p) (wd p) (X c)
        ∗ held vM c fullShare (qr p c true true) 1024 (cs p) (wd p) (X c))
      ⊢ held vM c fullShare 0 4096 (cs p) (wd p) (X c) := (three vM c fullShare p c _ _ _).2

/-- What the three local copies of a part need. -/
theorem kits (p : Fin 3) :
    iprop(free (F := F) vM c 0 4096 (cs p) (wd p) ∗ held xM c fullShare 0 4096 (cs p) (wd p) (X c)
        ∗ (dutyTok ER (kcell c (cp p 0)) 0 0 ∗ dutyTok ER (kcell c (cp p 1)) 0 0 ∗ dutyTok ER (kcell c (cp p 2)) 0 0))
      ⊢ iprop(kit X p 0 c ∗ kit X p 1 c ∗ kit X p 2 c) := by
  iintro ⟨V, H, ⟨T0, T1, T2⟩⟩
  ihave V := (free_open _ _ _ _ _ _) $$ V; icases V with ⟨%φ, V⟩
  ihave V := (three vM c fullShare p c _ _ _).1 $$ V; icases V with ⟨V2, V1, V0⟩
  ihave H := (three xM c fullShare p c _ _ _).1 $$ H; icases H with ⟨H2, H1, H0⟩
  unfold kit
  isplitl [T0 V0 H0]
  · iframe T0 H0; iapply held_free; iexact V0
  isplitl [T1 V1 H1]
  · iframe T1 H1; iapply held_free; iexact V1
  iframe T2 H2; iapply held_free; iexact V2

/-! ## The whole result -/

/-- The result by row and column: every column as its part computes it. -/
def Res (r k : ℕ) : Elt F .bf16 := if k < 384 then Rv X 0 r k else if k < 768 then Rv X 1 r k else Rv X 2 r k

theorem res_join :
    iprop(held oM c fullShare 0 4096 (cs 0) (wd 0) (Rv X 0) ∗ held oM c fullShare 0 4096 (cs 1) (wd 1) (Rv X 1)
        ∗ held oM c fullShare 0 4096 (cs 2) (wd 2) (Rv X 2))
      ⊢ held oM c fullShare 0 4096 0 1024 (Res X) := by
  have h (p : Fin 3) (hp : ∀ i k, cs p ≤ k → k < cs p + wd p → Rv X p i k = Res X i k) :
      (held oM c fullShare 0 4096 (cs p) (wd p) (Rv X p) : sProp 𝕄) = held oM c fullShare 0 4096 (cs p) (wd p) (Res X) :=
    held_congr oM c fullShare fun i k _ _ => hp i k
  rw [h 0 (fun i k (h : 0 ≤ k) (h' : k < 0 + 384) => by unfold Res; rw [if_pos (by omega)]),
    h 1 (fun i k (h : 384 ≤ k) (h' : k < 384 + 384) => by unfold Res; rw [if_neg (by omega), if_pos (by omega)]),
    h 2 (fun i k (h : 768 ≤ k) (h' : k < 768 + 256) => by unfold Res; rw [if_neg (by omega), if_neg (by omega)])]
  exact (parts3 oM c fullShare 0 4096 (Res X)).2

/-! ## After the last wait -/

/-- The semaphores in the order of the waits are all of them. -/
theorem by_order (Φ : Cx → sProp 𝕄) : (bigSep (Finset.range 82) fun k => Φ (wl k)) = bigSep Finset.univ Φ := by
  have h : (List.range 82).map wl = waitl := rfl
  rw [bigSep_univ_eq_bigSepL waitl (by decide +kernel) waitl_nodup, ← h, bigSepL_map]
  exact bigSep_eq_bigSepL_of_eq (List.range 82) (by ext k; simp) List.nodup_range _

/-- The blocks of the argument, back from the local copies. -/
theorem back_join : (bigSep Finset.univ fun x : Cx => back X c x) ⊢ held xM c fullShare 0 4096 0 1024 (X c) := by
  rw [bigSep_univ_sum, bigSep_univ_sum, bigSep_univ_prod]
  show iprop((_ : sProp 𝕄) ∗ ((_ : sProp 𝕄) ∗ (_ : sProp 𝕄))) ⊢ _
  iintro ⟨-, H, -⟩
  have h3 (p : Fin 3) : (bigSep Finset.univ fun n : Fin 3 => back X c (.inr (.inl (p, n)))) ⊢ held xM c fullShare 0 4096 (cs p) (wd p) (X c) := by
    rw [bigSep_univ_eq_bigSepL [(2 : Fin 3), 1, 0] (by decide) (by decide)]
    exact (three xM c fullShare p c _ _ _).2
  ihave H := (Entails.of_eq (show (bigSep Finset.univ fun p : Fin 3 => bigSep Finset.univ fun n : Fin 3 => back X c (.inr (.inl (p, n)))) = iprop((bigSep Finset.univ fun n : Fin 3 => back X c (.inr (.inl (0, n)))) ∗ (bigSep Finset.univ fun n : Fin 3 => back X c (.inr (.inl (1, n))))
    ∗ (bigSep Finset.univ fun n : Fin 3 => back X c (.inr (.inl (2, n)))))
      from bigSep_univ_eq_bigSepL [(0 : Fin 3), 1, 2] (by decide) (by decide) _)) $$ H
  icases H with ⟨A, B, C⟩
  iapply (parts3 xM c fullShare 0 4096 (X c)).2
  isplitl [A]; · iapply (h3 0); iexact A
  isplitl [B]; · iapply (h3 1); iexact B
  iapply (h3 2); iexact C

/-- What is left after the last wait: nothing owed, every semaphore at zero, the argument. -/
theorem run_done (K : Dev nD × Cx → ℕ) :
    run X K c 39 82 ⊢ iprop((∃ W, owes (c : Thread nD τ) 0 W) ∗ (bigSep Finset.univ fun x : Cx => semVal (kcell c x) 0)
      ∗ held xM c fullShare 0 4096 0 1024 (X c)) := by
  unfold run
  rw [Ow_done, by_order (fun x => shut X c x)]
  unfold shut
  rw [bigSep_sep']
  iintro ⟨-, HO, -, -, Hz, Hb⟩
  isplitl [HO]; · iexact HO
  isplitl [Hz]; · iexact Hz
  iapply (back_join X c); iexact Hb

end Pieces

end Cert.AllReduce
-- ==== Proof.Body.lean ====
/-
The whole run of the kernel on one device: the parts one after the other, and the buffers before and after.
-/
module

public import proofs.«01_k».proof.Proof.First
public import proofs.«01_k».proof.Proof.Second
public import proofs.«01_k».proof.Proof.Third
public import proofs.«01_k».proof.Proof.Pieces

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

section Body

variable (X : Dev nD → ℕ → ℕ → Elt F .f32) (K : Dev nD × Cx → ℕ) (c : Dev nD)
variable (h0 : xM.IsWhole) (h1 : oM.IsWhole) (h2 : vM.IsWhole) (h3 : (stM 0).IsWhole) (h4 : (stM 1).IsWhole) (h5 : (stM 2).IsWhole)
  (h6 : (rbM 0).IsWhole) (h7 : (rbM 1).IsWhole) (h8 : (rbM 2).IsWhole)

/-- The first part reads which device this is and changes nothing. -/
theorem part1 {Q : _ → sProp 𝕄} :
    iprop(∀ r, ⌜r.1 = c⌝ -∗ Q r) ⊢ runs c (k0_part1 xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13) Q := by
  rw [k0_part1_eq_skeleton]; unfold k0_part1_skel
  simp only [Prog.lift, Prog.bind_op, Prog.bind_ret, Prog.pure_eq_ret]
  iintro H
  unfold runs
  rw [wp_deviceId, wp_ret]; imodintro
  iapply H
  ipureintro; rfl

/-- The scratch buffers, with whatever contents; the duties of a part's local copies. -/
def scr (c : Dev nD) : sProp 𝕄 :=
  iprop(free (F := F) vM c 0 4096 0 1024
    ∗ (free (stM 0) c 0 2048 0 (wd 0) ∗ free (stM 1) c 0 2048 0 (wd 1) ∗ free (stM 2) c 0 2048 0 (wd 2))
    ∗ (free (rbM 0) c 0 3584 0 (wd 0) ∗ free (rbM 1) c 0 3584 0 (wd 1) ∗ free (rbM 2) c 0 3584 0 (wd 2)))
def cpToks (p : Fin 3) (c : Dev nD) : sProp 𝕄 :=
  iprop((dutyTok ER (kcell c (cp p 0)) 0 0 : sProp 𝕄) ∗ dutyTok ER (kcell c (cp p 1)) 0 0 ∗ dutyTok ER (kcell c (cp p 2)) 0 0)

/-- The kernel on one device: it ends with the whole result in the output buffer. -/
theorem sound_body {Q : PUnit → sProp 𝕄} :
    run X K c 0 0 ⊢ iprop(free oM c 0 4096 0 1024 -∗ scr c -∗ held xM c fullShare 0 4096 0 1024 (X c) -∗ (cpToks 0 c ∗ cpToks 1 c ∗ cpToks 2 c) -∗
      (∀ r, (run X K c 39 82 ∗ held oM c fullShare 0 4096 0 1024 (Res X) ∗ scr c) -∗ Q r)
      -∗ runs c (cc0_body xM h0 oM h1 vM h2 (stM 0) h3 (stM 1) h4 (stM 2) h5 (rbM 0) h6 (rbM 1) h7 (rbM 2) h8
          cc0_scratch7 cc0_scratch8 cc0_scratch9 cc0_scratch10 cc0_scratch11 cc0_scratch12 cc0_scratch13) Q) := by
  rw [cc0_body_eq_skeleton]; unfold cc0_body_skel scr cpToks
  iintro Hr O ⟨V, ⟨S0, S1, S2⟩, ⟨B0, B1, B2⟩⟩ H ⟨T0, T1, T2⟩ Hk
  ihave O := (free_open _ _ _ _ _ _) $$ O; icases O with ⟨%φ, O⟩
  ihave V := (free_open _ _ _ _ _ _) $$ V; icases V with ⟨%ψ, V⟩
  ihave O := (parts3 oM c fullShare 0 4096 _).1 $$ O; icases O with ⟨O0, O1, O2⟩
  ihave V := (parts3 vM c fullShare 0 4096 _).1 $$ V; icases V with ⟨V0, V1, V2⟩
  ihave H := (parts3 xM c fullShare 0 4096 _).1 $$ H; icases H with ⟨H0, H1, H2⟩
  ihave P := (own_pieces c 0) $$ [O0 S0 B0]
  · isplitl [O0]; · iapply held_free; iexact O0
    iframe B0; iexact S0
  icases P with ⟨⟨G00, G01, G02⟩, ⟨Oq0, Ot0, Of0⟩, F00, F01⟩
  ihave P := (kits X c 0) $$ [V0 H0 T0]
  · isplitl [V0]; · iapply held_free; iexact V0
    iframe H0; iexact T0
  icases P with ⟨K00, K01, K02⟩
  ihave P := (own_pieces c 1) $$ [O1 S1 B1]
  · isplitl [O1]; · iapply held_free; iexact O1
    iframe B1; iexact S1
  icases P with ⟨⟨G10, G11, G12⟩, ⟨Oq1, Ot1, Of1⟩, F10, F11⟩
  ihave P := (kits X c 1) $$ [V1 H1 T1]
  · isplitl [V1]; · iapply held_free; iexact V1
    iframe H1; iexact T1
  icases P with ⟨K10, K11, K12⟩
  ihave P := (own_pieces c 2) $$ [O2 S2 B2]
  · isplitl [O2]; · iapply held_free; iexact O2
    iframe B2; iexact S2
  icases P with ⟨⟨G20, G21, G22⟩, ⟨Oq2, Ot2, Of2⟩, F20, F21⟩
  ihave P := (kits X c 2) $$ [V2 H2 T2]
  · isplitl [V2]; · iapply held_free; iexact V2
    iframe H2; iexact T2
  icases P with ⟨K20, K21, K22⟩
  ihave M0 := (show iprop(give 0 0 c ∗ give 1 2 c ∗ give 2 1 c) ⊢ barPay (flip 0 c) 0 from bar_make (F := F) 0 c) $$ [G00 G12 G21]
  · iframe G00 G12; iexact G21
  ihave M1 := (show iprop(give 0 1 c ∗ give 1 0 c ∗ give 2 2 c) ⊢ barPay (flip 1 c) 1 from bar_make (F := F) 1 c) $$ [G01 G10 G22]
  · iframe G01 G10; iexact G22
  ihave M2 := (show iprop(give 0 2 c ∗ give 1 1 c ∗ give 2 0 c) ⊢ barPay (flip 2 c) 2 from bar_make (F := F) 2 c) $$ [G02 G11 G20]
  · iframe G02 G11; iexact G20
  iapply (runs_bind _ _ _ _); iapply (part1 c h0 h1 h2 h3 h4 h5 h6 h7 h8)
  iintro %r %hd
  rcases r with ⟨d0, v2, v4, v6, v7, v10, v12, v15, v17, v20, v22, v25, v27, v28, v30, v32, v33⟩; dsimp only at hd ⊢
  have hd := hd.symm; subst hd
  iapply (runs_bind _ _ _ _); iapply (part2 X K c h0 h1 h2 h3 h4 h5 h6 h7 h8 _ _ _ _ _ _ _ _ _) $$ Hr K10 K00 K20 K11
  iintro %r ⟨Hr, C10, C00, C20, C11⟩
  rcases r with ⟨v35, v37⟩; dsimp only
  iapply (runs_bind _ _ _ _); iapply (part3 X K c h0 h1 h2 h3 h4 h5 h6 h7 h8 _ _ _) $$ Hr K01 K21 K22 K02 K12 M0 M1
  iintro %r %hb ⟨Hr, C01, C21, C22, C02, C12⟩
  rcases r with ⟨v89, c4_i32_57⟩; dsimp only at hb ⊢
  iapply (runs_bind _ _ _ _); iapply (part4 X K c h0 h1 h2 h3 h4 h5 h6 h7 h8 _ _ _ _ _ _ _ hb) $$ Hr M2 C10 F10
  iintro %r ⟨Hr, Z0, Z1, Z2, Y10, S10⟩
  rcases r with ⟨v112, v123⟩; dsimp only
  unfold room rest
  icases Z0 with ⟨D00, D01, D02, D03, D04, E08, E09, E010, E011⟩
  icases Z1 with ⟨D11, D12, D13, D14, E18, E19, E110, E111⟩
  icases Z2 with ⟨D20, D21, D22, D23, D24, E28, E29, E210, E211⟩
  iapply (runs_bind _ _ _ _); iapply (part5 X K c h0 h1 h2 h3 h4 h5 h6 h7 h8 _ _ _ _) $$ Hr C00 F00 D00 C20 F20
  iintro %r ⟨Hr, Y00, S00, Y20, G20⟩
  rcases r with ⟨v134, v156⟩; dsimp only
  iapply (runs_bind _ _ _ _); iapply (part6 X K c h0 h1 h2 h3 h4 h5 h6 h7 h8 _ _ _ _ _ _) $$ Hr G20 D20 C11 F11 D11
  iintro %r ⟨Hr, S20, Y11, S11⟩
  rcases r with ⟨v177, v187⟩; dsimp only
  iapply (runs_bind _ _ _ _); iapply (part7 X K c h0 h1 h2 h3 h4 h5 h6 h7 h8 _ _ _ _) $$ Hr C01 F01 D01 C21 F21
  iintro %r ⟨Hr, Y01, S01, Y21, G21⟩
  rcases r with ⟨v198, v219⟩; dsimp only
  iapply (runs_bind _ _ _ _); iapply (part8 X K c h0 h1 h2 h3 h4 h5 h6 h7 h8 _ _ _) $$ Hr G21 D21 S20 C22
  iintro %r %hv8 ⟨Hr, S21, G20, Y22, L20⟩
  iapply (runs_bind _ _ _ _); iapply (part9 X K c h0 h1 h2 h3 h4 h5 h6 h7 h8 _ _ _ _ hv8) $$ Hr Oq2 D22 D23 S00
  iintro %r ⟨Hr, S22, S23, G00⟩
  rcases r with ⟨v254, v263⟩; dsimp only
  iapply (runs_bind _ _ _ _); iapply (part10 X K c h0 h1 h2 h3 h4 h5 h6 h7 h8 _ _ _ _) $$ Hr C02 Oq0 D02
  iintro %r ⟨Hr, Y02, L00, A0f, S02⟩
  iapply (runs_bind _ _ _ _); iapply (part11 X K c h0 h1 h2 h3 h4 h5 h6 h7 h8 _ _ _) $$ Hr A0f D03 S10 C12
  iintro %r %hv11 ⟨Hr, S03, G10, Y12, L10⟩
  rcases r with ⟨v307, v332, v333⟩; dsimp only at hv11 ⊢
  iapply (runs_bind _ _ _ _); iapply (part12 X K c h0 h1 h2 h3 h4 h5 h6 h7 h8 _ _ _ _ _ hv11) $$ Hr Oq1 D12 D13
  iintro %r ⟨Hr, S12, S13⟩
  rcases r with ⟨v342, v351⟩; dsimp only
  iapply (runs_bind _ _ _ _); iapply (part13 X K c h0 h1 h2 h3 h4 h5 h6 h7 h8 _ _ _ _) $$ Hr S21 S22 Y22
  iintro %r %hv13 ⟨Hr, G21, L22, E27, Y22, L21⟩
  rcases r with ⟨v382, v391⟩; dsimp only at hv13 ⊢
  iapply (runs_bind _ _ _ _); iapply (part14 X K c h0 h1 h2 h3 h4 h5 h6 h7 h8 _ _ _ _ hv13) $$ Hr L22 Ot2 D24 S01
  iintro %r ⟨Hr, L22, S24, G01, L01⟩
  iapply (runs_bind _ _ _ _); iapply (part15 X K c h0 h1 h2 h3 h4 h5 h6 h7 h8 _ _ _ _) $$ Hr S02 Y02 L01 Ot0
  iintro %r ⟨Hr, E07, Y02, L01, L02, B0⟩
  iapply (runs_bind _ _ _ _); iapply (part16 X K c h0 h1 h2 h3 h4 h5 h6 h7 h8 _ _ _ _) $$ Hr B0 D04 S11 S12
  iintro %r ⟨Hr, S04, G11, L11, L12, E17⟩
  iapply (runs_bind _ _ _ _); iapply (part17 X K c h0 h1 h2 h3 h4 h5 h6 h7 h8 _ _ _ _) $$ Hr Y12 L11 L12 Ot1 D14 S23
  iintro %r ⟨Hr, Y12, L11, L12, S14⟩
  iapply (runs_bind _ _ _ _); iapply (part18 X K c h0 h1 h2 h3 h4 h5 h6 h7 h8 _ _ _ _) $$ Hr S24 Y22 L21 Of2
  iintro %r ⟨Hr, E26, E25, Y22, L21, L23, L24, Q25, Q26, Q28⟩
  rcases r with ⟨v529, v530⟩; dsimp only
  iapply (runs_bind _ _ _ _); iapply (part19 X K c h0 h1 h2 h3 h4 h5 h6 h7 h8 _ _ _) $$ Hr Q25 E25 Q26 E26 Q28 E28 S03
  iintro %r ⟨Hr, S25, S26, S28⟩
  rcases r with ⟨v538, v547, v560⟩; dsimp only
  iapply (runs_bind _ _ _ _); iapply (part20 X K c h0 h1 h2 h3 h4 h5 h6 h7 h8 _ _ _ _) $$ Hr S04 Y02 L01 Of0
  iintro %r ⟨Hr, E06, E05, Y02, L01, L03, L04, Q05, Q06, Q08⟩
  iapply (runs_bind _ _ _ _); iapply (part21 X K c h0 h1 h2 h3 h4 h5 h6 h7 h8 _ _) $$ Hr Q05 E05 Q06 E06 Q08 E08
  iintro %r ⟨Hr, S05, S06, S08⟩
  rcases r with ⟨v590, v599, v608⟩; dsimp only
  iapply (runs_bind _ _ _ _); iapply (part22 X K c h0 h1 h2 h3 h4 h5 h6 h7 h8 _ _ _ _) $$ Hr S13 S14 Y12 L11
  iintro %r %hv22 ⟨Hr, E16, E15, Y12, L11, L13, L14⟩
  iapply (runs_bind _ _ _ _); iapply (part23 X K c h0 h1 h2 h3 h4 h5 h6 h7 h8 _ _ _ hv22) $$ Hr Of1 E15 E16 E18
  iintro %r ⟨Hr, S15, S16, S18⟩
  rcases r with ⟨v651, v660, v669⟩; dsimp only
  iapply (runs_bind _ _ _ _); iapply (part24 X K c h0 h1 h2 h3 h4 h5 h6 h7 h8 _ _ _ _) $$ Hr S25 E27 E29
  iintro %r ⟨Hr, W25, S27, S29⟩
  rcases r with ⟨v691, v700⟩; dsimp only
  iapply (runs_bind _ _ _ _); iapply (part25 X K c h0 h1 h2 h3 h4 h5 h6 h7 h8 _ _ _ _) $$ Hr S05 E07 E09
  iintro %r ⟨Hr, W05, S07, S09⟩
  rcases r with ⟨v722, v731⟩; dsimp only
  iapply (runs_bind _ _ _ _); iapply (part26 X K c h0 h1 h2 h3 h4 h5 h6 h7 h8 _ _ _ _) $$ Hr S15 E17
  iintro %r ⟨Hr, W15, Q19, S17⟩
  rcases r with ⟨v753, v762⟩; dsimp only
  iapply (runs_bind _ _ _ _); iapply (part27 X K c h0 h1 h2 h3 h4 h5 h6 h7 h8 _ _ _ _ _) $$ Hr Q19 E19 S26 E210 S06
  iintro %r ⟨Hr, S19, W26, S210, W06⟩
  iapply (runs_bind _ _ _ _); iapply (part28 X K c h0 h1 h2 h3 h4 h5 h6 h7 h8 _ _ _ _ _ _) $$ Hr E010 S16
  iintro %r ⟨Hr, S010, W16, R16⟩
  rcases r with ⟨v804, v825, v826, c0_i32_714⟩; dsimp only
  iapply (runs_bind _ _ _ _); iapply (part29 X K c h0 h1 h2 h3 h4 h5 h6 h7 h8 _ _ _ _ _ _) $$ Hr R16 E110 S27 E211
  iintro %r ⟨Hr, S110, W27, S211⟩
  iapply (runs_bind _ _ _ _); iapply (part30 X K c h0 h1 h2 h3 h4 h5 h6 h7 h8 _ _ _ _ _) $$ Hr S07 E011 S17
  iintro %r ⟨Hr, W07, S011, W17⟩
  iapply (runs_bind _ _ _ _); iapply (part31 X K c h0 h1 h2 h3 h4 h5 h6 h7 h8 _ _ _ _) $$ Hr E111 S28 S29
  iintro %r ⟨Hr, S111, W28, R28, W29⟩
  iapply (runs_bind _ _ _ _); iapply (part32 X K c h0 h1 h2 h3 h4 h5 h6 h7 h8 _ _ _) $$ Hr S210 S211
  iintro %r ⟨Hr, R29, W210, R210, W211, R211⟩
  iapply (runs_bind _ _ _ _); iapply (part33 X K c h0 h1 h2 h3 h4 h5 h6 h7 h8 _ _ _) $$ Hr S08 S09 S010
  iintro %r ⟨Hr, W08, R08, W09, R09, W010⟩
  iapply (runs_bind _ _ _ _); iapply (part34 X K c h0 h1 h2 h3 h4 h5 h6 h7 h8 _ _) $$ Hr S011 S18
  iintro %r ⟨Hr, R010, W011, R011, W18, R18⟩
  iapply (runs_bind _ _ _ _); iapply (part35 X K c h0 h1 h2 h3 h4 h5 h6 h7 h8 _ _ _) $$ Hr S19 S110 S111
  iintro %r ⟨Hr, W19, R19, W110, R110, W111⟩
  simp only [Prog.lift, Prog.bind_op, Prog.bind_ret, Prog.pure_eq_ret]
  iapply (wait_arr X K c 1 11 (R := outp 1 c fullShare (er 1 c true true true) (Rv X 1)) rfl) $$ Hr; iintro ⟨Hr, R111⟩
  iapply (runs_ret _ _ _)
  iapply Hk
  iframe Hr
  ihave O0 := (out_join X c 0) $$ [W05 W06 W08 W07 W09 W010 W011 R08 R09 R010 R011]
  · iframe W05 W06 W08 W07 W09 W010 W011 R08 R09 R010; iexact R011
  ihave O1 := (out_join X c 1) $$ [W15 W16 W18 W17 W19 W110 W111 R18 R19 R110 R111]
  · iframe W15 W16 W18 W17 W19 W110 W111 R18 R19 R110; iexact R111
  ihave O2 := (out_join X c 2) $$ [W25 W26 W28 W27 W29 W210 W211 R28 R29 R210 R211]
  · iframe W25 W26 W28 W27 W29 W210 W211 R28 R29 R210; iexact R211
  isplitl [O0 O1 O2]
  · iapply (res_join X c); iframe O0 O1; iexact O2
  isplitl [Y00 Y01 Y02 Y10 Y11 Y12 Y20 Y21 Y22]
  · iapply held_free; iapply (parts3 vM c fullShare 0 4096 (X c)).2
    isplitl [Y00 Y01 Y02]
    · iapply (copy_join X c 0); iframe Y02 Y01; iexact Y00
    isplitl [Y10 Y11 Y12]
    · iapply (copy_join X c 1); iframe Y12 Y11; iexact Y10
    iapply (copy_join X c 2); iframe Y22 Y21; iexact Y20
  isplitl [G00 G01 G10 G11 G20 G21]
  · isplitl [G00 G01]; · iapply (stage_join X c 0); iframe G00; iexact G01
    isplitl [G10 G11]; · iapply (stage_join X c 1); iframe G10; iexact G11
    iapply (stage_join X c 2); iframe G20; iexact G21
  isplitl [L00 L01 L02 L03 L04]; · iapply (land_join X c 0); iframe L00 L01 L02 L03; iexact L04
  isplitl [L10 L11 L12 L13 L14]; · iapply (land_join X c 1); iframe L10 L11 L12 L13; iexact L14
  iapply (land_join X c 2); iframe L20 L21 L22 L23; iexact L24

end Body

end Cert.AllReduce
-- ==== Proof.Ghost.lean ====
module

public import proofs.«01_k».proof.Proof.Body
public import Idealize.ShloMosaic.Lib.Pipeline.BigSepL

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

variable (X : Dev nD → ℕ → ℕ → Elt F .f32)

/-! ## The tokens and where they go -/

/-- The names of one device's duty tokens: its barrier's three, and one for every semaphore of its own. -/
abbrev Tk : Type := Fin 3 ⊕ Own
/-- The duty of a token. -/
def tokOf (y : Dev nD × Tk) : GSem nD τ sig × ℕ × Duty :=
  match y.2 with | .inl j => (kcell y.1 bar, 0, j) | .inr x => (kcell y.1 (.inr x), 0, 0)

theorem kcell_iff (c d : Dev nD) (x y : Cx) : kcell c x = kcell d y ↔ c = d ∧ x = y :=
  ⟨fun h => ⟨congrArg (fun g : GSem nD τ sig => g.1.1) h, ksem_inj (congrArg Prod.snd h)⟩, fun ⟨h, h'⟩ => by rw [h, h']⟩
theorem kcell_inj : Function.Injective fun y : Dev nD × Cx => kcell y.1 y.2 := fun y z h =>
  Prod.ext ((kcell_iff _ _ _ _).mp h).1 ((kcell_iff _ _ _ _).mp h).2
theorem tokOf_inj : Function.Injective tokOf := by
  rintro ⟨c, j | x⟩ ⟨d, k | y⟩ h
  · have h1 := ((kcell_iff _ _ _ _).mp (congrArg Prod.fst h)).1
    have h2 : j = k := congrArg (fun z : GSem nD τ sig × ℕ × Duty => z.2.2) h
    exact Prod.ext h1 (congrArg Sum.inl h2)
  · exact absurd ((kcell_iff _ _ _ _).mp (congrArg Prod.fst h)).2 (by intro h'; cases h')
  · exact absurd ((kcell_iff _ _ _ _).mp (congrArg Prod.fst h)).2 (by intro h'; cases h')
  · have h1 := (kcell_iff _ _ _ _).mp (congrArg Prod.fst h)
    exact Prod.ext h1.1 (congrArg Sum.inr (Sum.inr.inj h1.2))

/-- All the semaphores of the kernel on all devices, and all the duty tokens. -/
def cells : Finset (GSem nD τ sig) := Finset.univ.map ⟨fun y : Dev nD × Cx => kcell y.1 y.2, kcell_inj⟩
def tokens : Finset (GSem nD τ sig × ℕ × Duty) := Finset.univ.map ⟨tokOf, tokOf_inj⟩

/-- The tokens of a device's own semaphores. -/
def toks (c : Dev nD) : sProp 𝕄 :=
  iprop((bigSep Finset.univ fun j : Fin 3 => (dutyTok ER (kcell c bar) 0 j : sProp 𝕄))
    ∗ (bigSep Finset.univ fun y : Fin 3 × Fin 3 => (dutyTok ER (kcell c (cp y.1 y.2)) 0 0 : sProp 𝕄))
    ∗ (bigSep Finset.univ fun y : Fin 3 × Fin 12 => (dutyTok ER (kcell c (snd y.1 y.2)) 0 0 : sProp 𝕄))
    ∗ (bigSep Finset.univ fun y : Fin 3 × Fin 12 => (dutyTok ER (kcell c (rcv y.1 y.2)) 0 0 : sProp 𝕄)))

theorem toks_eq : bigSep tokens (fun x => (dutyTok ER x.1 x.2.1 x.2.2 : sProp 𝕄)) = bigSep Finset.univ fun c : Dev nD => toks (F := F) c := by
  unfold tokens; rw [bigSep_map, bigSep_univ_prod]
  refine bigSep_congr fun c _ => ?_
  rw [bigSep_univ_sum, bigSep_univ_sum, bigSep_univ_sum]; rfl

theorem cells_eq (Φ : GSem nD τ sig → sProp 𝕄) :
    bigSep cells Φ = bigSep Finset.univ fun c : Dev nD => bigSep Finset.univ fun x : Cx => Φ (kcell c x) := by
  unfold cells; rw [bigSep_map, bigSep_univ_prod]; rfl

/-- What a device pays with: the tokens at its neighbours' barriers and receive semaphores, and at its own send semaphores. -/
def pays (c : Dev nD) : sProp 𝕄 :=
  iprop((bigSep Finset.univ fun j : Fin 3 => (dutyTok ER (kcell (flip j c) bar) 0 j : sProp 𝕄))
    ∗ (bigSep Finset.univ fun y : Fin 3 × Fin 12 => (dutyTok ER (kcell c (snd y.1 y.2)) 0 0 : sProp 𝕄))
    ∗ (bigSep Finset.univ fun y : Fin 3 × Fin 12 => (dutyTok ER (kcell (nb y.1 (dimOf y.2) c) (rcv y.1 y.2)) 0 0 : sProp 𝕄)))

/-- A bijection of the devices for every name. -/
def around {A : Type} (f : A → Dev nD → Dev nD) (h : ∀ a d, f a (f a d) = d) : Dev nD × A ≃ Dev nD × A where
  toFun y := (f y.2 y.1, y.2)
  invFun y := (f y.2 y.1, y.2)
  left_inv y := Prod.ext (h y.2 y.1) rfl
  right_inv y := Prod.ext (h y.2 y.1) rfl

/-- Tokens named by a device and something else may be dealt to the neighbours. -/
theorem deal {A : Type} [Fintype A] (f : A → Dev nD → Dev nD) (h : ∀ a d, f a (f a d) = d) (Φ : Dev nD → A → sProp 𝕄) :
    (bigSep Finset.univ fun c : Dev nD => bigSep Finset.univ fun a : A => Φ c a)
      = bigSep Finset.univ fun c : Dev nD => bigSep Finset.univ fun a : A => Φ (f a c) a := by
  rw [← bigSep_univ_prod (fun y : Dev nD × A => Φ y.1 y.2), bigSep_univ_equiv (around f h), bigSep_univ_prod]; rfl

/-- The sends in the order of the program are all of them. -/
theorem by_send (Φ : Fin 3 × Fin 12 → sProp 𝕄) : (bigSep (Finset.Ico 3 39) fun k => Φ (sendAt k)) = bigSep Finset.univ Φ := by
  have h : (List.range' 3 36).map sendAt = ordr := rfl
  rw [bigSep_univ_eq_bigSepL ordr (by decide +kernel) (by decide +kernel), ← h, bigSepL_map]
  exact bigSep_eq_bigSepL_of_eq (List.range' 3 36) (by ext k; simp) List.nodup_range' _

theorem pays_eq (c : Dev nD) : pays c ⊢ (bigSep (Finset.Ico 0 39) fun k => payTok (F := F) c k) := by
  have h : (bigSep (Finset.Ico 3 39) fun k => payTok (F := F) c k)
      = iprop((bigSep Finset.univ fun y : Fin 3 × Fin 12 => (dutyTok ER (kcell c (snd y.1 y.2)) 0 0 : sProp 𝕄))
        ∗ (bigSep Finset.univ fun y : Fin 3 × Fin 12 => (dutyTok ER (kcell (nb y.1 (dimOf y.2) c) (rcv y.1 y.2)) 0 0 : sProp 𝕄))) := by
    rw [← bigSep_sep', ← by_send]
    refine bigSep_congr fun k hk => ?_
    rw [Finset.mem_Ico] at hk
    unfold payTok tcell
    rw [if_neg (show ¬ k < 3 by omega), if_neg (show ¬ k < 3 by omega)]
  rw [bigSep_ico (show 0 < 39 by omega), bigSep_ico (show 0 + 1 < 39 by omega), bigSep_ico (show 0 + 1 + 1 < 39 by omega), h]
  have hs (j : Fin 3) : (dutyTok ER (kcell (flip j c) bar) 0 j : sProp 𝕄) = payTok (F := F) c j.val := by
    unfold payTok tcell
    rw [if_pos j.isLt, if_pos j.isLt, show sigAt j.val = j from by revert j; decide]
  unfold pays
  simp only [hs]
  rw [bigSep_univ_eq_bigSepL [(0 : Fin 3), 1, 2] (by decide) (by decide)]
  show iprop((payTok (F := F) c 0 ∗ payTok (F := F) c 1 ∗ payTok (F := F) c 2) ∗ (_ : sProp 𝕄) ∗ (_ : sProp 𝕄)) ⊢ _
  iintro ⟨⟨H0, H1, H2⟩, Hs, Hr⟩
  isplitl [H0]; · iexact H0
  isplitl [H1]; · iexact H1
  isplitl [H2]; · iexact H2
  isplitl [Hs] <;> iassumption

theorem cpToks_eq (c : Dev nD) : (bigSep Finset.univ fun y : Fin 3 × Fin 3 => (dutyTok ER (kcell c (cp y.1 y.2)) 0 0 : sProp 𝕄))
    ⊢ iprop(cpToks (F := F) 0 c ∗ cpToks 1 c ∗ cpToks 2 c) := by
  have h (p : Fin 3) : (bigSep Finset.univ fun j : Fin 3 => (dutyTok ER (kcell c (cp p j)) 0 0 : sProp 𝕄)) = cpToks (F := F) p c :=
    bigSep_univ_eq_bigSepL [(0 : Fin 3), 1, 2] (by decide) (by decide) _
  rw [bigSep_univ_prod, bigSep_univ_eq_bigSepL [(0 : Fin 3), 1, 2] (by decide) (by decide), ← h, ← h, ← h]; rfl

/-- The tokens dealt to those who pay the duties. -/
theorem toks_around : (bigSep Finset.univ fun c : Dev nD => toks (F := F) c)
    ⊢ bigSep Finset.univ fun c : Dev nD => iprop((bigSep (Finset.Ico 0 39) fun k => payTok (F := F) c k) ∗ (cpToks (F := F) 0 c ∗ cpToks 1 c ∗ cpToks 2 c)) := by
  unfold toks
  rw [bigSep_sep', bigSep_sep', bigSep_sep',
    deal (fun j c => flip j c) flip_flip (fun c j => (dutyTok ER (kcell c bar) 0 j : sProp 𝕄)),
    deal (fun (y : Fin 3 × Fin 12) c => nb y.1 (dimOf y.2) c) (fun y d => nb_nb y.1 _ d) (fun c y => (dutyTok ER (kcell c (rcv y.1 y.2)) 0 0 : sProp 𝕄)),
    ← bigSep_sep', ← bigSep_sep', ← bigSep_sep']
  refine bigSep_mono fun c _ => ?_
  show iprop((_ : sProp 𝕄) ∗ (_ : sProp 𝕄) ∗ (_ : sProp 𝕄) ∗ (_ : sProp 𝕄)) ⊢ iprop((_ : sProp 𝕄) ∗ (_ : sProp 𝕄))
  iintro ⟨H0, H1, H2, H3⟩
  isplitr [H1]
  · iapply (pays_eq c)
    unfold pays
    isplitl [H0]; · iexact H0
    isplitl [H2] <;> iassumption
  · iapply (cpToks_eq c); iexact H1

/-! ## The credits of the launch -/

/-- The semaphore of the `k`-th payment and the device it is on. -/
def tx (k : ℕ) : Cx := if k < 3 then bar else rcv (sendAt k).1 (sendAt k).2
def tdev (k : ℕ) (d : Dev nD) : Dev nD := if k < 3 then flip (sigAt k) d else nb (sendAt k).1 (dimOf (sendAt k).2) d
theorem tcell_eq (k : ℕ) (d : Dev nD) : tcell k d = kcell (tdev k d) (tx k) := by
  unfold tcell tdev tx; split <;> rfl
theorem tdev_tdev (k : ℕ) (d : Dev nD) : tdev k (tdev k d) = d := by
  unfold tdev; split
  · exact flip_flip _ _
  · exact nb_nb _ _ _

/-- The units the others pay to a semaphore. -/
def due (x : Cx) : ℕ := match x with | .inl _ => 3 | rcv p s => amt (rcv p s) | _ => 0
theorem due_eq : ∀ x : Cx, (∑ k ∈ Finset.Ico 0 39, if tx k = x then tamt k else 0) = due x := by decide +kernel

theorem owed_at (c : Dev nD) (x : Cx) : (∑ d : Dev nD, Ow 0 d (kcell c x) ()) = due x := by
  rw [← due_eq x]
  have h (d : Dev nD) : Ow 0 d (kcell c x) () = ∑ k ∈ Finset.Ico 0 39, if tx k = x ∧ tdev k c = d then tamt k else 0 := by
    unfold Ow
    rw [Finset.sum_apply, Finsupp.finsetSum_apply]
    refine Finset.sum_congr rfl fun k _ => ?_
    rw [tallyAt_apply, tcell_eq]
    refine if_congr ?_ rfl rfl
    rw [kcell_iff]
    constructor
    · rintro ⟨⟨h1, h2⟩, _⟩; exact ⟨h2.symm, by rw [h1, tdev_tdev]⟩
    · rintro ⟨h1, h2⟩; exact ⟨⟨by rw [← h2, tdev_tdev], h1.symm⟩, rfl⟩
  rw [Finset.sum_congr rfl fun d _ => h d, Finset.sum_comm]
  refine Finset.sum_congr rfl fun k _ => ?_
  by_cases hk : tx k = x
  · rw [if_pos hk, Finset.sum_congr rfl fun d _ => if_congr (and_iff_right hk) rfl rfl, Finset.sum_ite_eq, if_pos (Finset.mem_univ _)]
  · rw [if_neg hk]
    exact Finset.sum_eq_zero fun d _ => if_neg fun h => hk h.1

theorem launch_at (c : Dev nD) (x : Cx) :
    tallyOn (kcell c x) (launchCredit (Pipeline.owing (Ow 0)) 0 (kcell c x)) = (tallyAt (kcell c x) () (due x) : CellTallies nD τ sig Unit) := by
  unfold tallyAt; refine congrArg _ (Finsupp.ext fun u => ?_); cases u
  rw [Pipeline.launchCredit_owing, Finsupp.single_eq_same, owed_at]

/-- What the launch credits a device is what it needs for the others' payments. -/
theorem creds (c : Dev nD) : (Pipeline.launchCred (Ow 0) c : sProp 𝕄) ⊢ bigSep Finset.univ fun x : Cx => early (F := F) c x := by
  unfold Pipeline.launchCred
  refine (BI.bigSep_subset (t := Finset.univ.map ⟨ksem, ksem_inj⟩) (Finset.subset_univ _)).trans ?_
  rw [bigSep_map]
  refine bigSep_mono fun x _ => ?_
  show (cred (tallyOn (kcell c x) (launchCredit (Pipeline.owing (Ow 0)) 0 (kcell c x))) : sProp 𝕄) ⊢ _
  rw [launch_at]
  rcases x with u | ⟨p, k⟩ | ⟨p, s⟩ | ⟨p, s⟩
  · exact .rfl
  · iintro -; iempintro
  · iintro -; iempintro
  · exact .rfl

/-! ## The ghost state of the launch -/

/-- The initial ghost state. -/
def u₀ : GS := (initOf (Pipeline.cells cfgs cellOf_inj) (Pipeline.launchToks cfgs cellOf_inj), initOf cells tokens)

/-- A device's share of it. -/
def G (c : Dev nD) : sProp 𝕄 :=
  iprop((bigSep Finset.univ fun x : Cx => roundState ER (Rd X) (kcell c x) 0)
    ∗ (bigSep Finset.univ fun x : Cx => iprop(atPos ER (kcell c x) 0 ∅ 0 ∗ reached ER (kcell c x) 0)) ∗ toks (F := F) c)

theorem fund_all : BI.own (ER (initOf cells tokens)) ⊢ (|==> bigSep Finset.univ (G X) : sProp 𝕄) := by
  iintro HX
  imod (Rounds.fund ER (Rd X) cells tokens) $$ HX with ⟨Hst, Hr, Hat, Htok⟩
  imodintro
  ihave Hst := (Entails.of_eq (cells_eq fun g => roundState ER (Rd X) g 0)) $$ Hst
  ihave Hat := (Entails.of_eq (cells_eq fun g => atPos ER g 0 ∅ 0)) $$ Hat
  ihave Hr := (Entails.of_eq (cells_eq fun g => reached ER g 0)) $$ Hr
  ihave Htok := (Entails.of_eq toks_eq) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (kcell c bar) 0 := by
  unfold unscopedSems0; rw [bigSep_eq_bigSepL_of_eq [SemLoc.reg barS] (by decide) (by decide)]; rfl

theorem sems_eq (c : Dev nD) : (bigSep Finset.univ fun x : Cx => semVal (kcell c x) 0 : sProp 𝕄)
    = iprop(unscopedSems0 c ∗ Pipeline.ownSems0 (Ix := Unit) (Name := ℕ) (U := GS) (Lvl := ℕ) (Val := Elt F) (τ := τ) osem c) := by
  rw [unscopedSems0_eq, bigSep_univ_sum, bigSep_univ_eq_bigSepL [()] (by decide) (by decide)]
  unfold Pipeline.ownSems0; rfl

theorem core_alloc (c : Dev nD) :
    iprop(Pipeline.ownSems0 (Ix := Unit) (Name := ℕ) (U := GS) (Lvl := ℕ) (Val := Elt F) (τ := τ) osem c ∗ unscopedSems0 c ∗ G X c)
      ⊢ |={Set.univ}=> iprop((bigSep Finset.univ fun x : Cx => iprop(∃ κ : ℕ, cellInv ER (Rd X) κ (kcell c x)))
          ∗ (bigSep Finset.univ fun x : Cx => iprop(atPos ER (kcell c x) 0 ∅ 0 ∗ reached ER (kcell c x) 0)) ∗ toks (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x : Cx => semVal (kcell c x) 0) ∗ bigSep Finset.univ fun x : Cx => roundState ER (Rd X) (kcell c x) 0)
      ⊢ (|={Set.univ}=> bigSep Finset.univ fun x : Cx => iprop(∃ κ : ℕ, cellInv ER (Rd X) κ (kcell c x)) : sProp 𝕄) from by
        rw [← bigSep_sep']
        exact (bigSep_mono fun x _ => (Rounds.body_intro ER (Rd X) (kcell c x)).trans inv_alloc).trans (bigSep_fupd _ _)) $$ [Hv Hst] with Hinv
  · isplitl [Hv] <;> iassumption
  imodintro
  isplitl [Hinv]; · iexact Hinv
  isplitl [Hat]; · iexact Hat
  iexact Htok

/-- What every device knows of all the semaphores. -/
def known (K : Dev nD × Cx → ℕ) : sProp 𝕄 :=
  iprop((bigSep Finset.univ fun y : Dev nD × Cx => cellInv ER (Rd X) (K y) (kcell y.1 y.2))
    ∗ bigSep Finset.univ fun y : Dev nD × Cx => reached ER (kcell y.1 y.2) 0)
instance known_persistent (K : Dev nD × Cx → ℕ) : BI.Persistent (known X K) := by unfold known; infer_instance

/-- What stays with one device. -/
def mine (c : Dev nD) : sProp 𝕄 :=
  iprop((bigSep Finset.univ fun x : Cx => (atPos ER (kcell c x) 0 ∅ 0 : sProp 𝕄))
    ∗ (bigSep (Finset.Ico 0 39) fun k => payTok (F := F) c k) ∗ (cpToks (F := F) 0 c ∗ cpToks 1 c ∗ cpToks 2 c))

def G' (c : Dev nD) : sProp 𝕄 := iprop(∃ K, known X K ∗ mine (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cx => iprop(∃ κ : ℕ, cellInv ER (Rd X) κ (kcell c x)))
          ∗ (bigSep Finset.univ fun x : Cx => iprop(atPos ER (kcell c x) 0 ∅ 0 ∗ reached ER (kcell c x) 0)) ∗ toks (F := F) c) : sProp 𝕄)
      ⊢ bigSep Finset.univ (G' X) := by
  rw [bigSep_sep', bigSep_sep', ← bigSep_univ_prod (fun y : Dev nD × Cx => iprop(∃ κ : ℕ, cellInv ER (Rd X) κ (kcell y.1 y.2))),
    bigSep_congr (s := Finset.univ) (fun (c : Dev nD) _ => bigSep_sep' Finset.univ (fun x : Cx => (atPos ER (kcell c x) 0 ∅ 0 : sProp 𝕄)) (fun x => reached ER (kcell c x) 0)),
    bigSep_sep', ← bigSep_univ_prod (fun y : Dev nD × Cx => (reached ER (kcell y.1 y.2) 0 : sProp 𝕄))]
  iintro ⟨HI, ⟨Hat, #HR⟩, Htok⟩
  ihave HK := (BI.bigSep_exists_pi Finset.univ (fun (y : Dev nD × Cx) (κ : ℕ) => (cellInv ER (Rd X) κ (kcell y.1 y.2) : sProp 𝕄))) $$ HI
  icases HK with ⟨%K, #HI⟩
  ihave Htk := (toks_around (F := F)) $$ Htok
  iapply (with_persistent (R := known X K) (Φ := mine (F := F)) fun c _ => show iprop(known X K ∗ mine (F := F) c) ⊢ G' X c from by
    unfold G'; iintro ⟨HK, HM⟩; iexists K; isplitl [HK] <;> iassumption)
  isplitr
  · unfold known; isplitl; · iexact HI
    iexact HR
  · unfold mine
    rw [bigSep_sep' Finset.univ (fun c : Dev nD => bigSep Finset.univ fun x : Cx => (atPos ER (kcell c x) 0 ∅ 0 : sProp 𝕄))]
    isplitl [Hat]; · iexact Hat
    iexact Htk

theorem glob : (bigSep Finset.univ fun c => iprop(Pipeline.ownSems0 (Ix := Unit) (Name := ℕ) (U := GS) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-- All that a device brings to the kernel, with the levels and the credits of the launch. -/
def seed (c : Dev nD) : sProp 𝕄 :=
  iprop((∃ K, recs X K ∗ (bigSep (Finset.Ico 0 39) fun k => payTok (F := F) c k) ∗ (bigSep (Finset.Ico 0 82) fun k => waitTok (F := F) c k))
    ∗ (cpToks (F := F) 0 c ∗ cpToks 1 c ∗ cpToks 2 c))

theorem seed_intro (c : Dev nD) : iprop(levAts Lx lv ∗ Pipeline.launchCred (Ow 0) c ∗ G' X c) ⊢ (seed X c : sProp 𝕄) := by
  unfold G' known mine seed recs
  iintro ⟨#Hl, Hc, ⟨%K, ⟨#HI, #HR⟩, Ha, Hp, Ht⟩⟩
  ihave He := (creds (F := F) c) $$ Hc
  isplitr [Ht]
  · iexists K
    isplitr
    · isplitr; · iexact HI
      isplitr; · iexact HR
      iexact Hl
    isplitl [Hp]; · iexact Hp
    unfold waitTok
    rw [← Finset.range_eq_Ico, by_order (fun x => iprop(atPos ER (kcell c x) 0 ∅ 0 ∗ early (F := F) c x)), bigSep_sep']
    isplitl [Ha] <;> iassumption
  · iexact Ht

/-- With what the device owes, that is the state at the kernel's beginning. -/
theorem seed_run (c : Dev nD) (K : Dev nD × Cx → ℕ) (W) :
    iprop(recs X K ∗ (bigSep (Finset.Ico 0 39) fun k => payTok (F := F) c k) ∗ (bigSep (Finset.Ico 0 82) fun k => waitTok (F := F) c k)
      ∗ owes (c : Thread nD τ) (Ow 0 c) W) ⊢ run X K c 0 0 := by
  unfold run
  iintro ⟨Hr, Hp, Hw, HO⟩
  isplitl [Hr]; · iexact Hr
  isplitl [HO]; · iexists W; iexact HO
  isplitl [Hp]; · iexact Hp
  isplitl [Hw]; · iexact Hw
  rw [Finset.range_zero, BI.bigSep_empty]
  iempintro

end Cert.AllReduce
-- ==== Proof.Launch.lean ====
module

public import proofs.«01_k».proof.Proof.Ghost
public import proofs.«01_k».proof.Proof.Gen.KernelIdeal.Points
public import Idealize.ShloMosaic.Lib.Pipeline.Value
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GS ℕ

/-! ## Whole buffers -/

/-- Contents by row and column. -/
def tab {e : EltTy} {a b : ℕ} (f : (Sh ![a, b]).Idx → Elt F e) : ℕ → ℕ → Elt F e := fun r k =>
  if h : r < a ∧ k < b then f (fun | 0 => ⟨r, h.1⟩ | 1 => ⟨k, h.2⟩) else Classical.arbitrary (Elt F e)

theorem flat_tab {e : EltTy} {a b : ℕ} (f : (Sh ![a, b]).Idx → Elt F e) : (flat (tab f) : (Sh ![a, b]).Idx → Elt F e) = f := by
  funext i
  have h0 : (i 0).val < a := (i 0).isLt
  have h1 : (i 1).val < b := (i 1).isLt
  show tab f (i 0).val (i 1).val = f i
  unfold tab; rw [dif_pos ⟨h0, h1⟩]
  congr 1; funext j
  match j with
  | 0 => rfl
  | 1 => rfl

variable {sp : Space} {e : EltTy} {a b : ℕ}

/-- A whole buffer with some contents is the block of all its elements, free. -/
theorem to_free (M : Memref sig .tc sp (Sh ![a, b]) e) (hM : M.view.set = Finset.univ) (d : Dev nD) :
    iprop(∃ f, M.view.loc (d : Thread nD τ) ↦{fullShare} f) ⊢ (free M d 0 a 0 b : sProp 𝕄) := by
  iintro ⟨%f, H⟩
  rw [held_whole d fullShare M hM f (tab (M.view.read (Elt F) f)) (fun x => by rw [flat_tab])]
  exact held_free _ _ _ _ _ _ _
theorem from_free (M : Memref sig .tc sp (Sh ![a, b]) e) (hM : M.view.set = Finset.univ) (d : Dev nD) :
    (free M d 0 a 0 b : sProp 𝕄) ⊢ iprop(∃ f, M.view.loc (d : Thread nD τ) ↦{fullShare} f) := by
  iintro H
  ihave H := (free_open _ _ _ _ _ _) $$ H; icases H with ⟨%φ, H⟩
  iexists (fill M φ)
  rw [held_whole d fullShare M hM (fill M φ) φ (fun x => by rw [read_fill])]
  iexact H

theorem scr_intro (c : Dev nD) : (Pipeline.scopedRest cfg0.spec c : sProp 𝕄) ⊢ scr (F := F) c := by
  rw [scopedRest0_eq]; unfold scr
  iintro ⟨H0, H1, H2, H3, H4, H5, H6⟩
  isplitl [H0]; · iapply (to_free vM (View.set_whole _) c); iexact H0
  isplitl [H1 H2 H3]
  · isplitl [H1]; · iapply (to_free (stM 0) (View.set_whole _) c); iexact H1
    isplitl [H2]; · iapply (to_free (stM 1) (View.set_whole _) c); iexact H2
    iapply (to_free (stM 2) (View.set_whole _) c); iexact H3
  · isplitl [H4]; · iapply (to_free (rbM 0) (View.set_whole _) c); iexact H4
    isplitl [H5]; · iapply (to_free (rbM 1) (View.set_whole _) c); iexact H5
    iapply (to_free (rbM 2) (View.set_whole _) c); iexact H6
theorem scr_elim (c : Dev nD) : scr (F := F) c ⊢ (Pipeline.scopedRest cfg0.spec c : sProp 𝕄) := by
  rw [scopedRest0_eq]; unfold scr
  iintro ⟨H0, ⟨H1, H2, H3⟩, ⟨H4, H5, H6⟩⟩
  isplitl [H0]; · iapply (from_free vM (View.set_whole _) c); iexact H0
  isplitl [H1]; · iapply (from_free (stM 0) (View.set_whole _) c); iexact H1
  isplitl [H2]; · iapply (from_free (stM 1) (View.set_whole _) c); iexact H2
  isplitl [H3]; · iapply (from_free (stM 2) (View.set_whole _) c); iexact H3
  isplitl [H4]; · iapply (from_free (rbM 0) (View.set_whole _) c); iexact H4
  isplitl [H5]; · iapply (from_free (rbM 1) (View.set_whole _) c); iexact H5
  iapply (from_free (rbM 2) (View.set_whole _) c); iexact H6

variable (m : (ℓ : Loc nD τ sig) → Buf (Elt F) ℓ) (ρ : Dev nD → PrngReg)

/-- A device's argument by row and column. -/
def Xm (d : Dev nD) : ℕ → ℕ → Elt F .f32 := tab (e := .f32) (xM.view.read (Elt F) (m ((d : Thread nD τ).loc main_arg0)))

theorem arg_eq (c : Dev nD) :
    (((c : Thread nD τ).loc main_arg0) ↦{fullShare} m ((c : Thread nD τ).loc main_arg0) : sProp 𝕄) = held xM c fullShare 0 4096 0 1024 (Xm m c) :=
  held_whole c fullShare xM (View.set_whole _) (m ((c : Thread nD τ).loc main_arg0)) (Xm m c) fun x => by unfold Xm; rw [flat_tab]

/-! ## The kernel as the pipeline's one point -/

/-- The contents of the output buffer after the kernel. -/
def outB : (cc0_stg0_0 : Ref sig .tc).ty.Contents (Elt F) := fill oM (Res (Xm m))

def Φ₀ (c : Dev nD) : sProp 𝕄 := iprop((seed (Xm m) c ∗ held xM c fullShare 0 4096 0 1024 (Xm m c)) ∗ scr (F := F) c)
def Φ₁ (c : Dev nD) : sProp 𝕄 :=
  iprop((bigSep Finset.univ fun x : Cx => semVal (kcell c x) 0) ∗ held xM c fullShare 0 4096 0 1024 (Xm m c) ∗ scr (F := F) c)

def dats (_ : Fin 1) (c : Dev nD) : Dat τ (Elt F) Unit ℕ GS ℕ cfg0 c where
  A w := m ((cfg0.win w).arr.view.loc (c : Thread nD τ))
  after w _ := match w with
    | ⟨0, _⟩ => outB m
  Φ t := match t with
    | ⟨0, _⟩ => Φ₀ m c
    | ⟨_ + 1, _⟩ => Φ₁ m c
  q _ := fullShare
  owed t := match t with
    | ⟨0, _⟩ => Ow 0 c
    | ⟨_ + 1, _⟩ => 0

theorem owns_whole_eq (c : Dev nD) (b : Ref sig .tc) (f₀ : b.ty.Contents (Elt F)) :
    (owns (Ix := Unit) (Name := ℕ) (U := GS) (Lvl := ℕ) (c : Thread nD τ) (Memref.whole b) fullShare f₀ : sProp 𝕄)
      = iprop(∃ f : Buf (Elt F) (((c : Dev nD) : Thread nD τ).loc b), ⌜f = f₀⌝ ∗ (((c : Thread nD τ).loc b) ↦{fullShare} f)) := by
  unfold owns; simp only [Memref.view_whole, View.read_whole, View.set_whole]

abbrev stg (c : Dev nD) (b : Ref sig .tc) (f₀ : b.ty.Contents (Elt F)) : sProp 𝕄 :=
  iprop(∃ f : Buf (Elt F) (((c : Dev nD) : Thread nD τ).loc b), ⌜f = f₀⌝ ∗ (((c : Thread nD τ).loc b) ↦{fullShare} f))

def bodyPre (c : Dev nD) : sProp 𝕄 :=
  iprop(Φ₀ m c ∗ (dats m 0 c).owesAt () (t0_0 : Fin cfg0.N).castSucc
    ∗ (∃ d, stg c cc0_stg0_0 ((dats m 0 c).before (0 : Fin 1) t0_0 d)))
def bodyPost (c : Dev nD) : sProp 𝕄 :=
  iprop(Φ₁ m c ∗ (dats m 0 c).owesAt () (t0_0 : Fin cfg0.N).succ ∗ stg c cc0_stg0_0 (outB m))

set_option maxRecDepth 40000 in
/-- The library's obligation on the kernel's body. -/
theorem body_obligation (c : Dev nD) : BodyObligation (dats (F := F) m 0 c) (defs₀ (F := F)) Variants.none () Set.univ := fun t => by
  rw [show t = t0_0 from fin_N0 t]
  rw [bigSep_W0, bigSep_W0]
  simp only [owns_whole_eq]
  show bodyPre m c ⊢ wp frame (wpE (defs₀ (F := F)) Variants.none c none) Set.univ (bodyAt0 t0_0) (fun _ => bodyPost m c)
  unfold bodyPre Φ₀ seed Dat.owesAt Pipeline.owesWithin
  rw [show (dats m 0 c).owed (t0_0 : Fin cfg0.N).castSucc = Ow 0 c from rfl]
  iintro ⟨⟨⟨⟨⟨%K, Hr, Hp, Hw⟩, Ht⟩, Hx⟩, Hscr⟩, ⟨%W, %hW, HO⟩, ⟨%d0, %g0, %hg0, Hout⟩⟩
  ihave Hrun := (seed_run (Xm m) c K W) $$ [Hr Hp Hw HO]
  · isplitl [Hr]; · iexact Hr
    isplitl [Hp]; · iexact Hp
    isplitl [Hw] <;> iassumption
  ihave Hout := (to_free (F := F) oM (View.set_whole _) c) $$ [Hout]
  · iexists g0; iexact Hout
  iapply (sound_body (Xm m) K c _ _ _ _ _ _ _ _ _) $$ Hrun Hout Hscr Hx Ht
  iintro %r ⟨Hrun, Hout, Hscr⟩
  ihave H := (run_done (Xm m) c K) $$ Hrun
  icases H with ⟨⟨%W', HO⟩, Hs, Hx⟩
  unfold bodyPost Φ₁ Dat.owesAt Pipeline.owesWithin
  isplitl [Hs Hx Hscr]
  · isplitl [Hs]; · iexact Hs
    isplitl [Hx] <;> iassumption
  isplitl [HO]
  · iexists W'
    isplitr; · ipureintro; exact fun _ _ => Or.inl trivial
    iexact HO
  iexists (outB m)
  isplitr; · ipureintro; rfl
  iapply (Entails.of_eq (held_whole c fullShare oM (View.set_whole _) (outB m) (Res (Xm m)) (fun x => by unfold outB; rw [read_fill])).symm)
  iexact Hout

/-! ## The launch -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts Lx lv
        ∗ Pipeline.launchCred (Ow 0) c ∗ prngReg c (ρ c) ∗ G' (Xm m) c)
      ⊢ |={Set.univ}=> iprop((seed (Xm m) c ∗ held xM c fullShare 0 4096 0 1024 (Xm m c)) ∗ emp) := by
  rw [Pipeline.unscopedRestP_none, unscopedRest0_eq, arg_eq]
  iintro ⟨Hx, Hlev, Hcr, -, HG⟩
  ihave Hs := (seed_intro (Xm m) c) $$ [Hlev Hcr HG]
  · isplitl [Hlev]; · iexact Hlev
    isplitl [Hcr] <;> iassumption
  imodintro
  isplitl
  · isplitl [Hs] <;> iassumption
  · iempintro

theorem phi0_intro (c : Dev nD) :
    iprop((seed (Xm m) c ∗ held xM c fullShare 0 4096 0 1024 (Xm m c)) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_intro c); iexact Hr

theorem phi1_exit (c : Dev nD) :
    (dats m 0 c).Φ (Fin.last cfg0.N) ⊢ iprop((unscopedSems0 c ∗ (((c : Thread nD τ).loc main_arg0) ↦{fullShare} m ((c : Thread nD τ).loc main_arg0)))
      ∗ Pipeline.ownSems0 osem c ∗ Pipeline.scopedRest cfg0.spec c) := by
  rw [show (dats m 0 c).Φ (Fin.last cfg0.N) = Φ₁ m c from rfl, arg_eq]
  unfold Φ₁
  rw [sems_eq]
  iintro ⟨⟨Hb, Ho⟩, Hx, Hr⟩
  isplitl [Hb Hx]
  · isplitl [Hb] <;> iassumption
  isplitl [Ho]; · iexact Ho
  iapply (scr_elim c); iexact Hr

theorem waits (c : Dev nD) : (levAts Lx lv : sProp 𝕄) ⊢ Pipeline.cellsWaits cfgs (dats m) () 0 c :=
  Pipeline.cellsWaits_intro cfgs (dats m) () 0 c fun w s t => by
    rcases t with ⟨_ | _, ht⟩
    · exact mayWait c _ 0 0 (by revert c w s; decide +kernel) (Or.inl rfl)
    · show _ ⊢ MayWait (c : Thread nD τ) _ () 0
      rw [MayWait_zero]; iintro -; iempintro

/-! ## The run -/

/-- The output array after the run. -/
def finalA (c : Dev nD) (w : Fin cfg0.W) : Buf (Elt F) ((cfg0.win w).arr.view.loc (c : Thread nD τ)) := (dats m 0 c).arrAt w cfg0.N

set_option maxRecDepth 40000 in
/-- From any memory with zero counters every weakly fair execution ends, with the argument unchanged, every counter at
    zero, and the output array at what the kernel left in the output buffer. -/
theorem run_main : θ_run defs (onTc (τ := τ) (main (F := F))) ⟨m, fun _ => 0, ρ⟩ (fun r =>
    (∀ c : Dev nD, r.2.mem ((c : Thread nD τ).loc main_v1) = finalA m c 0 ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := Ow 0) (howed₀ := fun _ => rfl) (howedN := fun _ => rfl)
    (L := Lx) (lv := lv) (hL := Lx_of_ne) (hwaits := waits m)
    (G := G (Xm m)) (G' := G' (Xm m)) (u₀ := u₀)
    (hu₀ := by
      unfold u₀
      iintro Hu
      ihave H := (ownU_pair _ _) $$ Hu
      icases H with ⟨HP, HX⟩
      imod (fund_all (Xm m)) $$ HX with HG
      imodintro
      isplitl [HP] <;> iassumption)
    (hglob := glob (Xm m))
    (hA := fun _ _ => rfl) (hpf := fun _ k => k.elim0)
    (X := fun c => iprop(seed (Xm m) c ∗ held xM c fullShare 0 4096 0 1024 (Xm m c)))
    (Y := fun c => iprop(unscopedSems0 c ∗ (((c : Thread nD τ).loc main_arg0) ↦{fullShare} m ((c : Thread nD τ).loc main_arg0)))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hx⟩, -, HSI⟩
      ihave H := (pointsTo_read_all {()} (fun _ => (c : Thread nD τ).loc main_arg0) (fun _ => m ((c : Thread nD τ).loc main_arg0)) s') $$ [Hx HSI]
      · rw [bigSep_singleton]; isplitl [Hx] <;> iassumption
      icases H with ⟨%hx, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hx () (Finset.mem_singleton_self _)⟩
      iexact HSI)
    (hQ := fun _ h hs => ⟨fun c => ⟨(h c).1 0, (h c).2.2.2⟩, sem_eq_zero hs fun c => (h c).2.2.1⟩)

theorem outB_eq : outB m = (flat (Res (Xm m)) : (Sh ![4096, 1024]).Idx → Elt F .bf16) := by
  have h := read_fill (F := F) oM (Res (Xm m))
  exact (View.read_whole (cc0_stg0_0 : Ref sig .tc) (outB m)).symm.trans h

/-- The block of the one point is the whole output array. -/
theorem whole_blk (i : (Sh ![4096, 1024]).Idx) : i ∈ ((cfg0.win 0).blk (t0_0 : Fin cfg0.N)).view.set := by
  show i ∈ ((View.whole main_v1).slice (win0_0.rect t0_0)).set
  rw [View.set_slice_whole, Rect.mem_set_unit]
  have h0 : (i 0).val < 4096 := (i 0).isLt
  have h1 : (i 1).val < 1024 := (i 1).isLt
  intro a
  match a with
  | 0 => exact ⟨Nat.zero_le _, h0⟩
  | 1 => exact ⟨Nat.zero_le _, h1⟩

/-- The output array ends as the result by row and column. -/
theorem finalA_eq (c : Dev nD) : finalA m c 0 = (flat (Res (Xm m)) : (Sh ![4096, 1024]).Idx → Elt F .bf16) :=
  (dats m 0 c).arrAt_eq_of_cover 0 (flat (Res (Xm m)) : (Sh ![4096, 1024]).Idx → Elt F .bf16) (fun t _ => by
    obtain rfl := fin_N0 t
    have ha : (dats m 0 c).after 0 t0_0 = outB m := by dsimp only [dats]
    unfold Pipeline.Dat.flushed
    rw [ha, outB_eq]
    funext x
    show Res (Xm m) (x 0).val (x 1).val = Res (Xm m) (0 * 4096 + 1 * (x 0).val) (0 * 1024 + 1 * (x 1).val)
    simp only [Nat.zero_mul, Nat.zero_add, Nat.one_mul]) fun i => ⟨t0_0, flush0_0 _, whole_blk i⟩

end Cert.AllReduce
-- ==== Proof.Refer.lean ====
module

public import proofs.«01_k».proof.Proof.Gen.ReferenceIdeal
public import Idealize.ShloMosaic.Lib.StableHlo
public import Idealize.ShloMosaic.Lib.Quiescent
public import Idealize.ShloMosaic.Lib.Layout
public import Idealize.ShloMosaic.Lib.Pointwise

@[expose] public section

noncomputable section

namespace Cert.AllReduce.Refer

open Cert.ReferenceIdeal Cert.ReferenceIdeal.Gen
open Idealize.ShloMosaic Idealize.ShloMosaic.TcCoe Idealize.ShloMosaic.StableHlo Idealize.SL.Sem

variable {F : FTy → Type} [FloatOps F]

/-- The reference's result from its argument: the eight blocks of rows added and the sum rounded. -/
def out (x : FVec F S32768x1024 .f32) : FVec F S4096x1024 .bf16 :=
  truncf .bf16 (Host.reduceAdd (shapeCast S8x4096x1024 x shapeCasts_S32768x1024_S8x4096x1024) (constant S_ .f32 0x00000000#32)
    reducesTo_S8x4096x1024_S4096x1024_d0 h_S_) bitsLt_bf16_f32

/-- The reference's operations, in order. -/
abbrev ops : List (HloOp τ sig (Elt F)) :=
  [ reshape main_arg0 main_v0 (rfl : (.f32 : EltTy) = .f32) shapeCasts_S32768x1024_S8x4096x1024,
    nullary main_cst (constant S_ .f32 0x00000000#32),
    binary main_v0 main_cst main_v1 ((fun x v => Host.reduceAdd x v reducesTo_S8x4096x1024_S4096x1024_d0 h_S_) :
      (⟨S8x4096x1024, .f32⟩ : BufTy).Contents (Elt F) → (⟨S_, .f32⟩ : BufTy).Contents (Elt F) → (⟨S4096x1024, .f32⟩ : BufTy).Contents (Elt F)),
    unary main_v1 main_v2 ((truncf .bf16 · bitsLt_bf16_f32) : (⟨S4096x1024, .f32⟩ : BufTy).Contents (Elt F) → (⟨S4096x1024, .bf16⟩ : BufTy).Contents (Elt F)) ]

theorem main_eq (c : Dev nD) : main (F := F) c = seq ops := rfl

theorem out_eq (V : Valuation τ sig (Elt F)) : after ops V (main_v2 : DevRef τ sig) = out (V (main_arg0 : DevRef τ sig)) := by
  after_results
  rfl
theorem arg_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., binary_bufs_sub .., unary_bufs_sub ..⟩

/-- The reference ends with its result computed from its argument, the argument unchanged and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = out (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v2).trans (out_eq _), (h c main_arg0).trans (arg_eq _)⟩,
      sem_eq_zero_of_no_sems (by decide) r.2⟩)
    (run_seq scopedRefs_eq scopedSems_eq defs main (fun _ => ops) main_eq (fun _ => ops_sub) m ρ)

/-- Row `r` of block `k`, in the whole array. -/
def row (k : Fin 8) (j : S4096x1024.Idx) : S32768x1024.Idx :=
  ix2 ⟨k.val * 4096 + (j 0).val, by have h := (j 0).isLt; have := k.isLt; change (j 0).val < 4096 at h; omega⟩ ⟨(j 1).val, (j 1).isLt⟩

/-- Over the extended reals the reference's result is the sum of the eight blocks. -/
theorem out_ideal (x : FVec Ideal S32768x1024 .f32) (j : S4096x1024.Idx) : out x j = ∑ k : Fin 8, (x (row k j) : EReal) := by
  show FloatOps.truncf .bf16 bitsLt_bf16_f32 (Host.reduceAdd (shapeCast S8x4096x1024 x shapeCasts_S32768x1024_S8x4096x1024)
    (constant S_ .f32 0x00000000#32) reducesTo_S8x4096x1024_S4096x1024_d0 h_S_ j) = _
  rw [Ideal.truncf_def, Host.reduceAdd_apply, Ideal.hostReduceAdd_def, Ideal.hostReduceAdd_r3_a0]
  rw [show (constant S_ .f32 0x00000000#32 (Shape.Idx.first h_S_) : Ideal .f32) = (0 : EReal) from Ideal.ofBits_zero .f32, zero_add]
  refine Finset.sum_congr rfl fun k _ => ?_
  rw [Pointwise.shapeCast_apply]
  congr 1
  refine Shape.reshapeEquiv_eq_of_vals _ _ _ _ _ (rowMajor_val2 _ 1024 rfl) (rowMajor_val3 _ 4194304 1024 rfl rfl) ?_
  show (k.val * 4096 + (j 0).val) * 1024 + (j 1).val = k.val * 4194304 + (j 0).val * 1024 + (j 1).val
  omega

end Cert.AllReduce.Refer
-- ==== Proof.Value.lean ====
module

public import proofs.«01_k».proof.Proof.Launch
public import proofs.«01_k».proof.Proof.Refer

@[expose] public section

noncomputable section

namespace Cert.AllReduce

open Cert.KernelIdeal Cert.KernelIdeal.Gen
open Idealize.ShloMosaic Idealize.ShloMosaic.TcCoe Idealize.SL.Sem

/-- The devices in the order in which one device's additions gather them, in part `p`. -/
def gathered (p : Fin 3) (d : Dev nD) : List (Dev nD) :=
  let pair (e : Dev nD) := [e, nb p 0 e]
  let four (e : Dev nD) := pair e ++ pair (nb p 1 e)
  four d ++ four (nb p 2 d)

/-- Every device is gathered once. -/
theorem gathered_perm (p : Fin 3) (d : Dev nD) : (gathered p d).Perm (List.finRange 8) := by
  revert p d; decide +kernel

/-- The three levels of additions add one value for each device. -/
theorem tree_sum (f : Dev nD → EReal) (p : Fin 3) (d : Dev nD) :
    ((f d + f (nb p 0 d)) + (f (nb p 1 d) + f (nb p 0 (nb p 1 d))))
      + ((f (nb p 2 d) + f (nb p 0 (nb p 2 d))) + (f (nb p 1 (nb p 2 d)) + f (nb p 0 (nb p 1 (nb p 2 d))))) = ∑ e : Fin 8, f e := by
  rw [Fin.sum_univ_def, ← ((gathered_perm p d).map f).sum_eq]
  simp only [gathered, List.map_append, List.sum_append, List.map_cons, List.map_nil, List.sum_cons, List.sum_nil, add_zero]

/-- Over the extended reals each part of the result is the sum of the devices' arguments. -/
theorem rv_ideal (X : Dev nD → ℕ → ℕ → Elt Ideal .f32) (p : Fin 3) (r c : ℕ) :
    Rv (F := Ideal) X p r c = ∑ e : Fin 8, (X e r c : EReal) :=
  tree_sum (fun e => X e r c) p (own p r)

/-- Over the extended reals the kernel's result is the sum of the devices' arguments. -/
theorem res_ideal (X : Dev nD → ℕ → ℕ → Elt Ideal .f32) (r c : ℕ) :
    Res (F := Ideal) X r c = ∑ e : Fin 8, (X e r c : EReal) := by
  unfold Res
  split
  · exact rv_ideal X 0 r c
  · split
    · exact rv_ideal X 1 r c
    · exact rv_ideal X 2 r c

/-- A device's argument, read by row and column, is its block of rows of the whole array. -/
theorem arg_block (m : (ℓ : Loc nD τ sig) → Buf (Elt Ideal) ℓ) (w : FVec Ideal ⟨2, ![32768, 1024]⟩ .f32)
    (hw : ∀ c : Dev nD, m ((c : Thread nD τ).loc main_arg0) = Layout.block ⟨2, ![4096, 1024]⟩ ⟨2, ![32768, 1024]⟩ 0 8 c w)
    (e : Dev nD) (j : (Sh ![4096, 1024]).Idx) : Xm m e (j 0).val (j 1).val = w (Refer.row e j) := by
  have h : flat (Xm m e) j = (xM.view.read (Elt Ideal) (m ((e : Thread nD τ).loc main_arg0)) : (Sh ![4096, 1024]).Idx → Elt Ideal .f32) j :=
    congrFun (flat_tab _) j
  refine h.trans ?_
  have hr : xM.view.read (Elt Ideal) (m ((e : Thread nD τ).loc main_arg0)) = m ((e : Thread nD τ).loc main_arg0) := View.read_whole main_arg0 _
  rw [hr, hw e]
  refine (Layout.block_apply e w (by decide) j).trans (congrArg w ?_)
  funext a
  match a with
  | 0 => exact Fin.ext (Layout.idx_rows_val _ e j).1
  | 1 => exact Fin.ext (Layout.idx_rows_val _ e j).2

/-- When the devices' arguments are the blocks of the reference's, the kernel's result is the reference's. -/
theorem result_eq (m : (ℓ : Loc nD τ sig) → Buf (Elt Ideal) ℓ) (w : FVec Ideal ⟨2, ![32768, 1024]⟩ .f32)
    (hw : ∀ c : Dev nD, m ((c : Thread nD τ).loc main_arg0) = Layout.block ⟨2, ![4096, 1024]⟩ ⟨2, ![32768, 1024]⟩ 0 8 c w) :
    (flat (Res (Xm m)) : (Sh ![4096, 1024]).Idx → Elt Ideal .bf16) = Refer.out w := by
  funext j
  refine (res_ideal (Xm m) (j 0).val (j 1).val).trans ((Refer.out_ideal w j).trans ?_).symm
  exact Finset.sum_congr rfl fun e _ => (arg_block m w hw e j).symm

end Cert.AllReduce
-- ==== Proof.lean ====
/-
The claims, put together: the kernel's run (Launch), the reference's run (Refer) and the equation between their results
(Value).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.AllReduce

section Same

variable {F : FTy → Type} [FloatOps F]

set_option maxRecDepth 100000 in
/-- The kernel's body is read the same way in both programs. -/
theorem kernels_same : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- The two programs have the same bodies. -/
theorem defs_same : Cert.Kernel.defs (F := F) = Cert.KernelIdeal.defs := by
  unfold Cert.Kernel.defs Cert.KernelIdeal.defs
  rw [kernels_same]
  rfl

end Same

/-- The compiled program ends with its argument unchanged and every counter at zero. -/
theorem frame_kernel : Cert.quiescent_Kernel := by
  intro m ρ _
  rw [defs_same]
  exact (θ_run (Cert.KernelIdeal.defs (F := Bits)) _ _).mono (fun _ h => ⟨fun c => (h.1 c).2, h.2⟩) (run_main (F := Bits) m ρ)

/-- So does the idealised kernel. -/
theorem frame_ideal : Cert.quiescent_KernelIdeal :=
  fun m ρ _ => (θ_run Cert.KernelIdeal.defs _ _).mono (fun _ h => ⟨fun c => (h.1 c).2, h.2⟩) (run_main (F := Ideal) m ρ)

/-- So does the idealised reference. -/
theorem frame_reference : Cert.quiescent_ReferenceIdeal :=
  fun m ρ _ => (θ_run Cert.ReferenceIdeal.defs _ _).mono (fun _ h => ⟨fun c => (h.1 c).2, h.2⟩) (Refer.run_main (F := Ideal) m ρ)

/-- On each device the idealised kernel's result is the idealised reference's. -/
theorem same_result : Cert.algebraic_KernelIdeal_ReferenceIdeal :=
  fun m ρ m' ρ' _ hw => ⟨Refer.out (F := Ideal) (m' (((0 : Dev Cert.ReferenceIdeal.nD).tc : Thread _ Cert.ReferenceIdeal.τ).loc Cert.ReferenceIdeal.main_arg0)),
    (θ_run Cert.KernelIdeal.defs _ _).mono
      (fun _ h c => ⟨((h.1 c).1.trans (finalA_eq m c)).trans (result_eq m _ hw), (h.1 c).2⟩) (run_main (F := Ideal) m ρ),
    (θ_run Cert.ReferenceIdeal.defs _ _).mono (fun _ h => h.1 0) (Refer.run_main (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, same_result⟩

end Cert.Proof

end
